-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 1024]⟩ ⟨2, ![1024, 1024]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 256]⟩ ⟨2, ![1024, 1024]⟩ (Layout.meshBlock [2, 4, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1024 : Shape := ⟨2, ![256, 1024]⟩
abbrev S1024x256 : Shape := ⟨2, ![1024, 256]⟩
abbrev S4x256x256 : Shape := ⟨3, ![4, 256, 256]⟩
abbrev S4 : Shape := ⟨1, ![4]⟩
abbrev S_ : Shape := ⟨0, ![]⟩
abbrev S1 : Shape := ⟨1, ![1]⟩
abbrev S1x256x256 : Shape := ⟨3, ![1, 256, 256]⟩
abbrev S256x256 : Shape := ⟨2, ![256, 256]⟩

abbrev nBuf : Space → Nat
  | .hbm => 2
  | .vmem => 2
  | .smem => 0
  | _ => 0

abbrev bufTy : (tb : Table) → Fin (tcTables nBuf tb) → BufTy
  | .hbm, ⟨0, _⟩ => ⟨S256x1024, .bf16⟩
  | .hbm, ⟨1, _⟩ => ⟨S1024x256, .bf16⟩
  | .local _ .vmem, ⟨0, _⟩ => ⟨S4x256x256, .bf16⟩
  | .local _ .vmem, ⟨1, _⟩ => ⟨S4x256x256, .bf16⟩
  | _, _ => ⟨S256x1024, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v10 : BitVec 1 := Scalar.cmpi .eq v5 c0_i32
  let v11 : BitVec 32 := Scalar.extui v10
  let c0_i32_2 : BitVec 32 := 0#32
  let v12 : BitVec 1 := Scalar.cmpi .ne v11 c0_i32_2
  v12

def k0_dev1 (d0 : Dev nD) : Nat :=
  let c0_i32_11 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_10 : BitVec 32 := 16#32
  let v22 : BitVec 32 := Scalar.muli v2 c16_i32_10
  let v23 : BitVec 32 := Scalar.addi c0_i32_11 v22
  let c1_i32_9 : BitVec 32 := 1#32
  let c4_i32_12 : BitVec 32 := 4#32
  let v24 : BitVec 32 := Scalar.muli c1_i32_9 c4_i32_12
  let v25 : BitVec 32 := Scalar.addi v23 v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v26 : BitVec 32 := Scalar.muli v8 c1_i32_13
  let v27 : BitVec 32 := Scalar.addi v25 v26
  v27.toNat
def k0_dev2 (d0 : Dev nD) : Nat :=
  let c0_i32_17 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_16 : BitVec 32 := 16#32
  let v28 : BitVec 32 := Scalar.muli v2 c16_i32_16
  let v29 : BitVec 32 := Scalar.addi c0_i32_17 v28
  let c2_i32_15 : BitVec 32 := 2#32
  let c4_i32_18 : BitVec 32 := 4#32
  let v30 : BitVec 32 := Scalar.muli c2_i32_15 c4_i32_18
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v32 : BitVec 32 := Scalar.muli v8 c1_i32_19
  let v33 : BitVec 32 := Scalar.addi v31 v32
  v33.toNat
def k0_dev3 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v34 : BitVec 32 := Scalar.muli v2 c16_i32_22
  let v35 : BitVec 32 := Scalar.addi c0_i32_23 v34
  let c3_i32_21 : BitVec 32 := 3#32
  let c4_i32_24 : BitVec 32 := 4#32
  let v36 : BitVec 32 := Scalar.muli c3_i32_21 c4_i32_24
  let v37 : BitVec 32 := Scalar.addi v35 v36
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v38 : BitVec 32 := Scalar.muli v8 c1_i32_25
  let v39 : BitVec 32 := Scalar.addi v37 v38
  v39.toNat
def k0_dev4 (d0 : Dev nD) : Nat :=
  let c0_i32_85 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_84 : BitVec 32 := 16#32
  let v90 : BitVec 32 := Scalar.muli v2 c16_i32_84
  let v91 : BitVec 32 := Scalar.addi c0_i32_85 v90
  let c1_i32_83 : BitVec 32 := 1#32
  let c4_i32_86 : BitVec 32 := 4#32
  let v92 : BitVec 32 := Scalar.muli c1_i32_83 c4_i32_86
  let v93 : BitVec 32 := Scalar.addi v91 v92
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_87 : BitVec 32 := 1#32
  let v94 : BitVec 32 := Scalar.muli v8 c1_i32_87
  let v95 : BitVec 32 := Scalar.addi v93 v94
  v95.toNat
def k0_dev5 (d0 : Dev nD) : Nat :=
  let c0_i32_97 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_96 : BitVec 32 := 16#32
  let v103 : BitVec 32 := Scalar.muli v2 c16_i32_96
  let v104 : BitVec 32 := Scalar.addi c0_i32_97 v103
  let c2_i32_95 : BitVec 32 := 2#32
  let c4_i32_98 : BitVec 32 := 4#32
  let v105 : BitVec 32 := Scalar.muli c2_i32_95 c4_i32_98
  let v106 : BitVec 32 := Scalar.addi v104 v105
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v107 : BitVec 32 := Scalar.muli v8 c1_i32_99
  let v108 : BitVec 32 := Scalar.addi v106 v107
  v108.toNat
def k0_dev6 (d0 : Dev nD) : Nat :=
  let c0_i32_109 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_108 : BitVec 32 := 16#32
  let v116 : BitVec 32 := Scalar.muli v2 c16_i32_108
  let v117 : BitVec 32 := Scalar.addi c0_i32_109 v116
  let c3_i32_107 : BitVec 32 := 3#32
  let c4_i32_110 : BitVec 32 := 4#32
  let v118 : BitVec 32 := Scalar.muli c3_i32_107 c4_i32_110
  let v119 : BitVec 32 := Scalar.addi v117 v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_111 : BitVec 32 := 1#32
  let v120 : BitVec 32 := Scalar.muli v8 c1_i32_111
  let v121 : BitVec 32 := Scalar.addi v119 v120
  v121.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v13 : BitVec 1 := Scalar.cmpi .eq v5 c1_i32_3
  let v14 : BitVec 32 := Scalar.extui v13
  let c0_i32_4 : BitVec 32 := 0#32
  let v15 : BitVec 1 := Scalar.cmpi .ne v14 c0_i32_4
  v15

def k0_dev7 (d0 : Dev nD) : Nat :=
  let c0_i32_11 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_10 : BitVec 32 := 16#32
  let v22 : BitVec 32 := Scalar.muli v2 c16_i32_10
  let v23 : BitVec 32 := Scalar.addi c0_i32_11 v22
  let c0_i32_9 : BitVec 32 := 0#32
  let c4_i32_12 : BitVec 32 := 4#32
  let v24 : BitVec 32 := Scalar.muli c0_i32_9 c4_i32_12
  let v25 : BitVec 32 := Scalar.addi v23 v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v26 : BitVec 32 := Scalar.muli v8 c1_i32_13
  let v27 : BitVec 32 := Scalar.addi v25 v26
  v27.toNat
def k0_dev8 (d0 : Dev nD) : Nat :=
  let c0_i32_17 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_16 : BitVec 32 := 16#32
  let v28 : BitVec 32 := Scalar.muli v2 c16_i32_16
  let v29 : BitVec 32 := Scalar.addi c0_i32_17 v28
  let c2_i32_15 : BitVec 32 := 2#32
  let c4_i32_18 : BitVec 32 := 4#32
  let v30 : BitVec 32 := Scalar.muli c2_i32_15 c4_i32_18
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v32 : BitVec 32 := Scalar.muli v8 c1_i32_19
  let v33 : BitVec 32 := Scalar.addi v31 v32
  v33.toNat
def k0_dev9 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v34 : BitVec 32 := Scalar.muli v2 c16_i32_22
  let v35 : BitVec 32 := Scalar.addi c0_i32_23 v34
  let c3_i32_21 : BitVec 32 := 3#32
  let c4_i32_24 : BitVec 32 := 4#32
  let v36 : BitVec 32 := Scalar.muli c3_i32_21 c4_i32_24
  let v37 : BitVec 32 := Scalar.addi v35 v36
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v38 : BitVec 32 := Scalar.muli v8 c1_i32_25
  let v39 : BitVec 32 := Scalar.addi v37 v38
  v39.toNat
def k0_dev10 (d0 : Dev nD) : Nat :=
  let c0_i32_86 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_85 : BitVec 32 := 16#32
  let v90 : BitVec 32 := Scalar.muli v2 c16_i32_85
  let v91 : BitVec 32 := Scalar.addi c0_i32_86 v90
  let c0_i32_84 : BitVec 32 := 0#32
  let c4_i32_87 : BitVec 32 := 4#32
  let v92 : BitVec 32 := Scalar.muli c0_i32_84 c4_i32_87
  let v93 : BitVec 32 := Scalar.addi v91 v92
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_88 : BitVec 32 := 1#32
  let v94 : BitVec 32 := Scalar.muli v8 c1_i32_88
  let v95 : BitVec 32 := Scalar.addi v93 v94
  v95.toNat
def k0_dev11 (d0 : Dev nD) : Nat :=
  let c0_i32_98 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_97 : BitVec 32 := 16#32
  let v103 : BitVec 32 := Scalar.muli v2 c16_i32_97
  let v104 : BitVec 32 := Scalar.addi c0_i32_98 v103
  let c2_i32_96 : BitVec 32 := 2#32
  let c4_i32_99 : BitVec 32 := 4#32
  let v105 : BitVec 32 := Scalar.muli c2_i32_96 c4_i32_99
  let v106 : BitVec 32 := Scalar.addi v104 v105
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_100 : BitVec 32 := 1#32
  let v107 : BitVec 32 := Scalar.muli v8 c1_i32_100
  let v108 : BitVec 32 := Scalar.addi v106 v107
  v108.toNat
def k0_dev12 (d0 : Dev nD) : Nat :=
  let c0_i32_110 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_109 : BitVec 32 := 16#32
  let v116 : BitVec 32 := Scalar.muli v2 c16_i32_109
  let v117 : BitVec 32 := Scalar.addi c0_i32_110 v116
  let c3_i32_108 : BitVec 32 := 3#32
  let c4_i32_111 : BitVec 32 := 4#32
  let v118 : BitVec 32 := Scalar.muli c3_i32_108 c4_i32_111
  let v119 : BitVec 32 := Scalar.addi v117 v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_112 : BitVec 32 := 1#32
  let v120 : BitVec 32 := Scalar.muli v8 c1_i32_112
  let v121 : BitVec 32 := Scalar.addi v119 v120
  v121.toNat
def k0_cond3 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_5 : BitVec 32 := 2#32
  let v16 : BitVec 1 := Scalar.cmpi .eq v5 c2_i32_5
  let v17 : BitVec 32 := Scalar.extui v16
  let c0_i32_6 : BitVec 32 := 0#32
  let v18 : BitVec 1 := Scalar.cmpi .ne v17 c0_i32_6
  v18

def k0_dev13 (d0 : Dev nD) : Nat :=
  let c0_i32_11 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_10 : BitVec 32 := 16#32
  let v22 : BitVec 32 := Scalar.muli v2 c16_i32_10
  let v23 : BitVec 32 := Scalar.addi c0_i32_11 v22
  let c1_i32_9 : BitVec 32 := 1#32
  let c4_i32_12 : BitVec 32 := 4#32
  let v24 : BitVec 32 := Scalar.muli c1_i32_9 c4_i32_12
  let v25 : BitVec 32 := Scalar.addi v23 v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v26 : BitVec 32 := Scalar.muli v8 c1_i32_13
  let v27 : BitVec 32 := Scalar.addi v25 v26
  v27.toNat
def k0_dev14 (d0 : Dev nD) : Nat :=
  let c0_i32_17 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_16 : BitVec 32 := 16#32
  let v28 : BitVec 32 := Scalar.muli v2 c16_i32_16
  let v29 : BitVec 32 := Scalar.addi c0_i32_17 v28
  let c3_i32_15 : BitVec 32 := 3#32
  let c4_i32_18 : BitVec 32 := 4#32
  let v30 : BitVec 32 := Scalar.muli c3_i32_15 c4_i32_18
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v32 : BitVec 32 := Scalar.muli v8 c1_i32_19
  let v33 : BitVec 32 := Scalar.addi v31 v32
  v33.toNat
def k0_dev15 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v34 : BitVec 32 := Scalar.muli v2 c16_i32_22
  let v35 : BitVec 32 := Scalar.addi c0_i32_23 v34
  let c0_i32_21 : BitVec 32 := 0#32
  let c4_i32_24 : BitVec 32 := 4#32
  let v36 : BitVec 32 := Scalar.muli c0_i32_21 c4_i32_24
  let v37 : BitVec 32 := Scalar.addi v35 v36
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v38 : BitVec 32 := Scalar.muli v8 c1_i32_25
  let v39 : BitVec 32 := Scalar.addi v37 v38
  v39.toNat
def k0_dev16 (d0 : Dev nD) : Nat :=
  let c0_i32_86 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_85 : BitVec 32 := 16#32
  let v90 : BitVec 32 := Scalar.muli v2 c16_i32_85
  let v91 : BitVec 32 := Scalar.addi c0_i32_86 v90
  let c1_i32_84 : BitVec 32 := 1#32
  let c4_i32_87 : BitVec 32 := 4#32
  let v92 : BitVec 32 := Scalar.muli c1_i32_84 c4_i32_87
  let v93 : BitVec 32 := Scalar.addi v91 v92
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_88 : BitVec 32 := 1#32
  let v94 : BitVec 32 := Scalar.muli v8 c1_i32_88
  let v95 : BitVec 32 := Scalar.addi v93 v94
  v95.toNat
def k0_dev17 (d0 : Dev nD) : Nat :=
  let c0_i32_98 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_97 : BitVec 32 := 16#32
  let v103 : BitVec 32 := Scalar.muli v2 c16_i32_97
  let v104 : BitVec 32 := Scalar.addi c0_i32_98 v103
  let c3_i32_96 : BitVec 32 := 3#32
  let c4_i32_99 : BitVec 32 := 4#32
  let v105 : BitVec 32 := Scalar.muli c3_i32_96 c4_i32_99
  let v106 : BitVec 32 := Scalar.addi v104 v105
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_100 : BitVec 32 := 1#32
  let v107 : BitVec 32 := Scalar.muli v8 c1_i32_100
  let v108 : BitVec 32 := Scalar.addi v106 v107
  v108.toNat
def k0_dev18 (d0 : Dev nD) : Nat :=
  let c0_i32_110 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_109 : BitVec 32 := 16#32
  let v116 : BitVec 32 := Scalar.muli v2 c16_i32_109
  let v117 : BitVec 32 := Scalar.addi c0_i32_110 v116
  let c0_i32_108 : BitVec 32 := 0#32
  let c4_i32_111 : BitVec 32 := 4#32
  let v118 : BitVec 32 := Scalar.muli c0_i32_108 c4_i32_111
  let v119 : BitVec 32 := Scalar.addi v117 v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_112 : BitVec 32 := 1#32
  let v120 : BitVec 32 := Scalar.muli v8 c1_i32_112
  let v121 : BitVec 32 := Scalar.addi v119 v120
  v121.toNat
def k0_cond4 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v19 : BitVec 1 := Scalar.cmpi .eq v5 c3_i32
  let v20 : BitVec 32 := Scalar.extui v19
  let c0_i32_7 : BitVec 32 := 0#32
  let v21 : BitVec 1 := Scalar.cmpi .ne v20 c0_i32_7
  v21

def k0_dev19 (d0 : Dev nD) : Nat :=
  let c0_i32_11 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_10 : BitVec 32 := 16#32
  let v22 : BitVec 32 := Scalar.muli v2 c16_i32_10
  let v23 : BitVec 32 := Scalar.addi c0_i32_11 v22
  let c2_i32_9 : BitVec 32 := 2#32
  let c4_i32_12 : BitVec 32 := 4#32
  let v24 : BitVec 32 := Scalar.muli c2_i32_9 c4_i32_12
  let v25 : BitVec 32 := Scalar.addi v23 v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v26 : BitVec 32 := Scalar.muli v8 c1_i32_13
  let v27 : BitVec 32 := Scalar.addi v25 v26
  v27.toNat
def k0_dev20 (d0 : Dev nD) : Nat :=
  let c0_i32_17 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_16 : BitVec 32 := 16#32
  let v28 : BitVec 32 := Scalar.muli v2 c16_i32_16
  let v29 : BitVec 32 := Scalar.addi c0_i32_17 v28
  let c1_i32_15 : BitVec 32 := 1#32
  let c4_i32_18 : BitVec 32 := 4#32
  let v30 : BitVec 32 := Scalar.muli c1_i32_15 c4_i32_18
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v32 : BitVec 32 := Scalar.muli v8 c1_i32_19
  let v33 : BitVec 32 := Scalar.addi v31 v32
  v33.toNat
def k0_dev21 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v34 : BitVec 32 := Scalar.muli v2 c16_i32_22
  let v35 : BitVec 32 := Scalar.addi c0_i32_23 v34
  let c0_i32_21 : BitVec 32 := 0#32
  let c4_i32_24 : BitVec 32 := 4#32
  let v36 : BitVec 32 := Scalar.muli c0_i32_21 c4_i32_24
  let v37 : BitVec 32 := Scalar.addi v35 v36
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v38 : BitVec 32 := Scalar.muli v8 c1_i32_25
  let v39 : BitVec 32 := Scalar.addi v37 v38
  v39.toNat
def k0_dev22 (d0 : Dev nD) : Nat :=
  let c0_i32_86 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_85 : BitVec 32 := 16#32
  let v90 : BitVec 32 := Scalar.muli v2 c16_i32_85
  let v91 : BitVec 32 := Scalar.addi c0_i32_86 v90
  let c2_i32_84 : BitVec 32 := 2#32
  let c4_i32_87 : BitVec 32 := 4#32
  let v92 : BitVec 32 := Scalar.muli c2_i32_84 c4_i32_87
  let v93 : BitVec 32 := Scalar.addi v91 v92
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_88 : BitVec 32 := 1#32
  let v94 : BitVec 32 := Scalar.muli v8 c1_i32_88
  let v95 : BitVec 32 := Scalar.addi v93 v94
  v95.toNat
def k0_dev23 (d0 : Dev nD) : Nat :=
  let c0_i32_98 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_97 : BitVec 32 := 16#32
  let v103 : BitVec 32 := Scalar.muli v2 c16_i32_97
  let v104 : BitVec 32 := Scalar.addi c0_i32_98 v103
  let c1_i32_96 : BitVec 32 := 1#32
  let c4_i32_99 : BitVec 32 := 4#32
  let v105 : BitVec 32 := Scalar.muli c1_i32_96 c4_i32_99
  let v106 : BitVec 32 := Scalar.addi v104 v105
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_100 : BitVec 32 := 1#32
  let v107 : BitVec 32 := Scalar.muli v8 c1_i32_100
  let v108 : BitVec 32 := Scalar.addi v106 v107
  v108.toNat
def k0_dev24 (d0 : Dev nD) : Nat :=
  let c0_i32_110 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_109 : BitVec 32 := 16#32
  let v116 : BitVec 32 := Scalar.muli v2 c16_i32_109
  let v117 : BitVec 32 := Scalar.addi c0_i32_110 v116
  let c0_i32_108 : BitVec 32 := 0#32
  let c4_i32_111 : BitVec 32 := 4#32
  let v118 : BitVec 32 := Scalar.muli c0_i32_108 c4_i32_111
  let v119 : BitVec 32 := Scalar.addi v117 v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_112 : BitVec 32 := 1#32
  let v120 : BitVec 32 := Scalar.muli v8 c1_i32_112
  let v121 : BitVec 32 := Scalar.addi v119 v120
  v121.toNat
-- ==== ReferenceIdeal.lean ====
abbrev S1024x1024 : Shape := ⟨2, ![1024, 1024]⟩

abbrev nBuf : Space → Nat
  | .hbm => 1
  | .vmem => 0
  | .smem => 0
  | _ => 0

abbrev bufTy : (tb : Table) → Fin (tcTables nBuf tb) → BufTy
  | .hbm, ⟨0, _⟩ => ⟨S1024x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Slots.lean ====
/-
# The mesh and the slots

Every device of the `2 × 4 × 4` mesh trades blocks with the three devices that differ from it in the second
coordinate alone.  Each of the four buffers a device uses is cut in four blocks of 256 × 256, and each of the
three arrays of transfer semaphores has four entries.  Here a block or a semaphore is named by its number
`j : Fin 4`, and what the rest of the proof needs of them is said once, for every `j`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Memref
public import Idealize.ShloMosaic.Lib.Ring
public import Idealize.ShloMosaic.Lib.Transfers
public import Idealize.ShloMosaic.Lib.Tactic

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- The rounds of the cells that devices signal to each other; a duty is named by a second coordinate. -/
abbrev UB : Type := URounds (GSem nD τ sig) (Fin 4)
/-- The user component: the pipeline's rounds, the exchange's rounds, and the counters of a device's own copies. -/
abbrev UU : Type := UR sig nD τ × (UB × Counters)

local notation "𝕄" => MT nD τ sig Unit (Elt F) ℕ UU ℕ

abbrev EP : Emb (UR sig nD τ) (MT nD τ sig Unit (Elt F) ℕ UU ℕ) := embL
/-- Where the exchange's rounds lie in the user component. -/
def ER : Emb UB (MT nD τ sig Unit (Elt F) ℕ UU ℕ) :=
  (Emb.inl : Emb UB (UB × Counters)).trans (embR : Emb (UB × Counters) (MT nD τ sig Unit (Elt F) ℕ UU ℕ))
instance ER_lands : (ER : Emb UB 𝕄).LandsIn (upEmb : UEmb _ 𝕄) := by unfold ER; infer_instance
abbrev EC : UEmb Counters (MT nD τ sig Unit (Elt F) ℕ UU ℕ) := countersEmb (nD := nD) (τ := τ) (sig := sig) (Ix := Unit) (Val := Elt F) (Name := ℕ) (U := UU) (Lvl := ℕ)

/-! ## The mesh -/

/-- The second mesh coordinate of a device. -/
def yOf (c : Dev nD) : Fin 4 := ⟨c.val / 4 % 4, Nat.mod_lt _ (by decide)⟩

set_option backward.proofsInPublic true in
/-- The device that has `c`'s first and third coordinates and second coordinate `j`. -/
def peer (c : Dev nD) (j : Fin 4) : Dev nD :=
  ⟨16 * (c.val / 16) + c.val % 4 + 4 * j.val, by have hc : c.val < 32 := c.isLt; have hj := j.isLt; show _ < 32; omega⟩

theorem peer_val (c : Dev nD) (j : Fin 4) : (peer c j).val = 16 * (c.val / 16) + c.val % 4 + 4 * j.val := rfl

theorem yOf_peer (c : Dev nD) (j : Fin 4) : yOf (peer c j) = j := by
  apply Fin.ext
  have hj := j.isLt
  show (16 * (c.val / 16) + c.val % 4 + 4 * j.val) / 4 % 4 = j.val
  omega

theorem peer_peer (c : Dev nD) (j k : Fin 4) : peer (peer c j) k = peer c k := by
  apply Fin.ext
  have hj := j.isLt
  show 16 * ((16 * (c.val / 16) + c.val % 4 + 4 * j.val) / 16) + (16 * (c.val / 16) + c.val % 4 + 4 * j.val) % 4 + 4 * k.val
    = 16 * (c.val / 16) + c.val % 4 + 4 * k.val
  omega

theorem peer_self (c : Dev nD) : peer c (yOf c) = c := by
  apply Fin.ext
  show 16 * (c.val / 16) + c.val % 4 + 4 * (c.val / 4 % 4) = c.val
  omega

/-- A device that is not `c` and shares its row is the peer at its own coordinate. -/
theorem peer_eq_iff (c d : Dev nD) (j : Fin 4) : peer c j = d ↔ yOf d = j ∧ peer d (yOf c) = c := by
  constructor
  · rintro rfl; exact ⟨yOf_peer c j, by rw [peer_peer, peer_self]⟩
  · rintro ⟨rfl, h⟩; rw [← h, peer_peer, peer_self]

/-! ## The slots -/

abbrev xM : Memref sig .tc .hbm S256x1024 .bf16 := Memref.whole main_arg0
abbrev oM : Memref sig .tc .hbm S1024x256 .bf16 := Memref.whole main_v1
abbrev vM : Memref sig .tc .vmem S4x256x256 .bf16 := Memref.whole cc0_scratch0
abbrev sM : Memref sig .tc .vmem S4x256x256 .bf16 := Memref.whole cc0_scratch1

abbrev offX (j : Fin 4) : Fin 2 → Nat := ![0, 256 * j.val]
abbrev offO (j : Fin 4) : Fin 2 → Nat := ![256 * j.val, 0]
abbrev offV (j : Fin 4) : Fin 3 → Nat := ![j.val, 0, 0]
abbrev offS (j : Fin 4) : Fin 1 → Nat := ![j.val]

theorem inbX : ∀ j : Fin 4, ∀ a, offX j a + S256x256.size a ≤ S256x1024.size a := by decide
theorem inbO : ∀ j : Fin 4, ∀ a, offO j a + S256x256.size a ≤ S1024x256.size a := by decide
theorem inbV : ∀ j : Fin 4, ∀ a, offV j a + S1x256x256.size a ≤ S4x256x256.size a := by decide
theorem inbS : ∀ j : Fin 4, ∀ a, offS j a + S1.size a ≤ S4.size a := by decide

/-- The rectangles: a block of columns of the argument, a block of rows of the result, a slot of a scratch buffer. -/
abbrev rX (j : Fin 4) : Rect S256x1024 := Rect.unit (s := S256x1024) (offX j) S256x256.size (inbX j)
abbrev rO (j : Fin 4) : Rect S1024x256 := Rect.unit (s := S1024x256) (offO j) S256x256.size (inbO j)
abbrev rV (j : Fin 4) : Rect S4x256x256 := Rect.unit (s := S4x256x256) (offV j) S1x256x256.size (inbV j)

theorem wordsX : ∀ j : Fin 4, (rX j).WholeWords (EltTy.packing .bf16) := by decide
theorem wordsO : ∀ j : Fin 4, (rO j).WholeWords (EltTy.packing .bf16) := by decide
theorem wordsV : ∀ j : Fin 4, (rV j).WholeWords (EltTy.packing .bf16) := by decide
theorem packedV : ∀ j : Fin 4, (rV j).PackedRows (EltTy.packing .bf16) := by decide

/-- Column block `j` of the argument; -/
abbrev xB (j : Fin 4) : Memref sig .tc .hbm S256x256 .bf16 := xM.slice (rX j) (fun _ => rfl)
/-- row block `j` of the result; -/
abbrev oB (j : Fin 4) : Memref sig .tc .hbm S256x256 .bf16 := oM.slice (rO j) (fun _ => rfl)
/-- slot `j` of the buffer the argument is copied into; -/
abbrev vB (j : Fin 4) : Memref sig .tc .vmem S256x256 .bf16 := (vM.slice (rV j) (fun _ => rfl)).squeeze S256x256 squeezes_S1x256x256_S256x256
/-- slot `j` of the buffer the blocks are sent from. -/
abbrev sB (j : Fin 4) : Memref sig .tc .vmem S256x256 .bf16 := (sM.slice (rV j) (fun _ => rfl)).squeeze S256x256 squeezes_S1x256x256_S256x256

/-- The semaphores of a device's own copies, of its sends, and of what it receives. -/
abbrev semAt (a : DmaSems sig S4) (j : Fin 4) : DmaSem sig := ((a.slice (Rect.unit (s := S4) (offS j) S1.size (inbS j))).squeeze S_ squeezes_S1_S_ : DmaSems sig S_).sem
abbrev copyS (j : Fin 4) : DmaSem sig := semAt cc0_scratch2 j
abbrev sendS (j : Fin 4) : DmaSem sig := semAt cc0_scratch3 j
abbrev recvS (j : Fin 4) : DmaSem sig := semAt cc0_scratch4 j
/-- The barrier semaphore. -/
abbrev barS : Sem sig := (SemArray.scalar (sig.barrier 0 rfl) : Sems sig S_).sem

theorem copyS_inj : ∀ j k : Fin 4, copyS j = copyS k → j = k := by decide
theorem sendS_inj : ∀ j k : Fin 4, sendS j = sendS k → j = k := by decide
theorem recvS_inj : ∀ j k : Fin 4, recvS j = recvS k → j = k := by decide
theorem copyS_ne_sendS : ∀ j k : Fin 4, copyS j ≠ sendS k := by decide
theorem copyS_ne_recvS : ∀ j k : Fin 4, copyS j ≠ recvS k := by decide
theorem sendS_ne_recvS : ∀ j k : Fin 4, sendS j ≠ recvS k := by decide

/-- What one block's transfer adds to its semaphore. -/
def N : Nat := (xB 0).view.dmaCredit
theorem N_pos : 0 < N := by decide +kernel
theorem creditX (j : Fin 4) : (xB j).view.dmaCredit = N := rfl
theorem creditO (j : Fin 4) : (oB j).view.dmaCredit = N := rfl
theorem creditV (j : Fin 4) : (vB j).view.dmaCredit = N := rfl
theorem creditS (j : Fin 4) : (sB j).view.dmaCredit = N := rfl

end Cert.AllToAll

end
-- ==== Proof.Program.lean ====
/-
# One branch of the kernel

The kernel tests its second mesh coordinate against 0, 1, 2, 3 and runs the same steps in each of the four branches, on
blocks it numbers from that coordinate.  Here the steps are written once for any numbering, and each printed branch
is shown to be them.
-/
module

public import proofs.«01_k».proof.Proof.Slots

@[expose] public section

noncomputable section

namespace Cert.AllToAll

open Cert.KernelIdeal Cert.KernelIdeal.Gen
open Idealize.ShloMosaic Idealize.ShloMosaic.TcCoe
open Idealize.SL.Sem

variable {F : FTy → Type} [FloatOps F]

theorem weX (j : Fin 4) : (xB j).view.WordExact := (Memref.isWhole_whole main_arg0).wordExact_slice rfl _ (wordsX j)
theorem weO (j : Fin 4) : (oB j).view.WordExact := (Memref.isWhole_whole main_v1).wordExact_slice rfl _ (wordsO j)
theorem weV (j : Fin 4) : (vB j).view.WordExact := ((Memref.isWhole_whole cc0_scratch0).wordExact_slice rfl _ (wordsV j)).reshape _ _
theorem weS (j : Fin 4) : (sB j).view.WordExact := ((Memref.isWhole_whole cc0_scratch1).wordExact_slice rfl _ (wordsV j)).reshape _ _

/-- What a stage stores: the loaded block, its leading axis dropped and put back. -/
def pay (v : Vec F S1x256x256 .bf16) : FVec F S1x256x256 .bf16 :=
  shapeCast S1x256x256 (shapeCast S256x256 v shapeCasts_S1x256x256_S256x256) shapeCasts_S256x256_S1x256x256

/-- The kernel's programs. -/
abbrev Steps (F : FTy → Type) [FloatOps F] : Type 1 := Prog (TpuEff nD τ sig (Elt F) Λ₀ .tc) PUnit

/-- Tell device `a` that this one has started. -/
def signalP (a : Dev nD) : Steps F := semSignalWord a barS 1#32
/-- Start the copy of column block `j` into its slot. -/
def fetchP (j : Fin 4) : Steps F :=
  Prog.lift (.enqueueDma (xB j) (.here (vB j)) (.dma (copyS j)) (weX j) (weV j) ⟨Or.inl rfl, trivial⟩)
/-- Wait for that copy and move the block to its slot of the buffer that is sent from. -/
def stageP (j : Fin 4) : Steps F := do
  Prog.lift (.waitDma2 (copyS j) (xB j) (vB j) (weX j) (weV j))
  let v : Vec F S1x256x256 .bf16 ← Prog.lift (.load vM (rV j).toLoadRect (View.loadsAt_vmem h_S1x256x256))
  let w : Vec F S1x256x256 .bf16 ← Prog.lift (.load sM (rV j).toLoadRect (View.loadsAt_vmem h_S1x256x256))
  Prog.lift (.store sM (rV j) (pay v) Finset.univ (View.stores_vmem h_S1x256x256 ((Memref.isWhole_whole cc0_scratch1).storeExact_slice rfl _ (packedV j)) (fun _ => rfl)) (.inl rfl))
/-- Wait until the three peers have started. -/
def barrierP : Steps F := semWaitWord barS 3#32
/-- Send block `j` to row block `i` of device `b`'s result. -/
def sendP (i j : Fin 4) (b : Dev nD) : Steps F :=
  Prog.lift (.enqueueDma (sB j) (.remote (Dev.tc b) (oB i) (.dma (sendS j))) (.dma (recvS i)) (weS j) (weO i) ⟨⟨rfl, Or.inl rfl⟩, trivial⟩)
/-- Copy the device's own block into its result. -/
def ownP (i : Fin 4) : Steps F :=
  Prog.lift (.enqueueDma (sB i) (.here (oB i)) (.dma (copyS i)) (weS i) (weO i) ⟨Or.inl rfl, trivial⟩)
/-- Wait for the block that comes from coordinate `s`. -/
def recvP (s : Fin 4) : Steps F := Prog.lift (.waitDma2 (recvS s) (sB s) (oB s) (weS s) (weO s))
/-- Wait for the device's own block. -/
def ownWaitP (i : Fin 4) : Steps F := Prog.lift (.waitDma2 (copyS i) (sB i) (oB i) (weS i) (weO i))
/-- Wait until block `j` has left. -/
def sentP (i j : Fin 4) : Steps F := Prog.lift (.waitDma2 (sendS j) (oB i) (sB j) (weO i) (weS j))

/-- A branch: `i` is the device's own coordinate, `j₁ j₂ j₃` the others in the order the kernel takes them, `aₖ` and `bₖ`
    the devices it signals and sends to. -/
def branch (i j₁ j₂ j₃ : Fin 4) (a₁ a₂ a₃ b₁ b₂ b₃ : Dev nD) : Steps F := do
  signalP a₁
  signalP a₂
  signalP a₃
  fetchP j₁
  fetchP j₂
  fetchP j₃
  fetchP i
  stageP j₁
  stageP j₂
  stageP j₃
  barrierP
  sendP i j₁ b₁
  sendP i j₂ b₂
  sendP i j₃ b₃
  stageP i
  ownP i
  recvP j₁
  recvP j₂
  recvP j₃
  ownWaitP i
  sentP i j₁
  sentP i j₂
  sentP i j₃

set_option backward.proofsInPublic true in
/-- The body in those terms. -/
def steps : Steps F := do
  let d : Dev nD ← Prog.lift .deviceId
  if h : k0_cond1 d = 1#1 then
    branch 0 1 2 3 ⟨k0_dev1 d, k0_dev1_lt d h⟩ ⟨k0_dev2 d, k0_dev2_lt d h⟩ ⟨k0_dev3 d, k0_dev3_lt d h⟩
      ⟨k0_dev4 d, k0_dev4_lt d h⟩ ⟨k0_dev5 d, k0_dev5_lt d h⟩ ⟨k0_dev6 d, k0_dev6_lt d h⟩
  else pure ⟨⟩
  if h : k0_cond2 d = 1#1 then
    branch 1 0 2 3 ⟨k0_dev7 d, k0_dev7_lt d h⟩ ⟨k0_dev8 d, k0_dev8_lt d h⟩ ⟨k0_dev9 d, k0_dev9_lt d h⟩
      ⟨k0_dev10 d, k0_dev10_lt d h⟩ ⟨k0_dev11 d, k0_dev11_lt d h⟩ ⟨k0_dev12 d, k0_dev12_lt d h⟩
  else pure ⟨⟩
  if h : k0_cond3 d = 1#1 then
    branch 2 1 3 0 ⟨k0_dev13 d, k0_dev13_lt d h⟩ ⟨k0_dev14 d, k0_dev14_lt d h⟩ ⟨k0_dev15 d, k0_dev15_lt d h⟩
      ⟨k0_dev16 d, k0_dev16_lt d h⟩ ⟨k0_dev17 d, k0_dev17_lt d h⟩ ⟨k0_dev18 d, k0_dev18_lt d h⟩
  else pure ⟨⟩
  if h : k0_cond4 d = 1#1 then
    branch 3 2 1 0 ⟨k0_dev19 d, k0_dev19_lt d h⟩ ⟨k0_dev20 d, k0_dev20_lt d h⟩ ⟨k0_dev21 d, k0_dev21_lt d h⟩
      ⟨k0_dev22 d, k0_dev22_lt d h⟩ ⟨k0_dev23 d, k0_dev23_lt d h⟩ ⟨k0_dev24 d, k0_dev24_lt d h⟩
  else pure ⟨⟩

/-- The printed body is those steps. -/
theorem body_eq : bodyAt0 (F := F) t0_0 = steps := by
  rfl

end Cert.AllToAll

end
-- ==== Proof.Protocol.lean ====
/-
# The exchange's protocol

What the devices promise each other.  A device signals the barrier of each of its three peers once, and hands over with the
signal the row block of its own result that this peer will fill.  A device sends each peer one block; the peer's
receive semaphore hands the peer that row block back, filled, and the device's send semaphore hands the device its
sending slot back.  Each of these cells has one round.
-/
module

public import proofs.«01_k».proof.Proof.Program

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells -/

abbrev barCell (c : Dev nD) : GSem nD τ sig := ((c : Thread nD τ), .reg barS)
abbrev sendCell (c : Dev nD) (j : Fin 4) : GSem nD τ sig := ((c : Thread nD τ), .dma (sendS j))
abbrev recvCell (c : Dev nD) (j : Fin 4) : GSem nD τ sig := ((c : Thread nD τ), .dma (recvS j))
abbrev copyCell (c : Dev nD) (j : Fin 4) : GSem nD τ sig := ((c : Thread nD τ), .dma (copyS j))

/-- The nine cells of a device that the protocol governs: its barrier, its four receive and its four send semaphores. -/
abbrev Cell : Type := Option (Bool × Fin 4)
def csem : Cell → SemLoc sig
  | none => .reg barS
  | some (true, j) => .dma (recvS j)
  | some (false, j) => .dma (sendS j)
abbrev kcell (x : Dev nD × Cell) : GSem nD τ sig := ((x.1 : Thread nD τ), csem x.2)

theorem dma_ne_bar (q : DmaSem sig) : (SemLoc.dma q : SemLoc sig) ≠ .reg barS := fun h => by cases h
theorem dma_inj {q q' : DmaSem sig} (h : (SemLoc.dma q : SemLoc sig) = .dma q') : q = q' := by cases h; rfl

theorem recv_loc_inj {j k : Fin 4} (h : (SemLoc.dma (recvS j) : SemLoc sig) = .dma (recvS k)) : j = k := recvS_inj _ _ (dma_inj h)
theorem send_loc_inj {j k : Fin 4} (h : (SemLoc.dma (sendS j) : SemLoc sig) = .dma (sendS k)) : j = k := sendS_inj _ _ (dma_inj h)
theorem send_loc_ne_recv {j k : Fin 4} : (SemLoc.dma (sendS j) : SemLoc sig) ≠ .dma (recvS k) := fun h => sendS_ne_recvS _ _ (dma_inj h)
theorem copy_loc_ne_recv {j k : Fin 4} : (SemLoc.dma (copyS j) : SemLoc sig) ≠ .dma (recvS k) := fun h => copyS_ne_recvS _ _ (dma_inj h)

/-! ## What is handed over -/

/-- A block held by device `c` with nothing said of what it holds. -/
abbrev someBlock (c : Dev nD) {sp : Space} (b : Memref sig .tc sp S256x256 .bf16) : sProp 𝕄 :=
  iprop(∃ w, owns (c : Thread nD τ) b fullShare w)

/-- Column block `j` of the argument device `c` was given. -/
def blk (c : Dev nD) (j : Fin 4) : S256x256.Idx → Elt F .bf16 := (xB j).view.read (Elt F) (m ((c : Thread nD τ).loc main_arg0))

/-- With the signal of its peer at `d` a device receives the row block of that peer's result it is to fill. -/
def barPay (c : Dev nD) (d : Fin 4) : sProp 𝕄 := someBlock (peer c d) (oB (yOf c))
/-- What its peer at `d` sent it: that peer's block of columns, in its own result. -/
def recvPay (c : Dev nD) (d : Fin 4) : sProp 𝕄 := owns (c : Thread nD τ) (oB d) fullShare (blk m (peer c d) (yOf c))
/-- Its sending slot, once the block has left. -/
def sendPay (c : Dev nD) (d : Fin 4) : sProp 𝕄 := someBlock c (sB d)

/-- One round, round 0.  The duties of a device's barrier are its three peers', one unit each; the duty of receive semaphore
    `d` is the peer's at `d`, and that of send semaphore `d` the device's own, a block's credit each. -/
def sched : Rounds.Schedule (GSem nD τ sig) (Fin 4) 𝕄 where
  duties g r := Finset.univ.filter fun d =>
    r = 0 ∧ g.1.2 = .tc ∧ d ≠ yOf g.1.1 ∧ (g.2 = .reg barS ∨ g.2 = .dma (recvS d) ∨ g.2 = .dma (sendS d))
  unitless _ := False
  amount g _ _ := if g.2 = .reg barS then 1 else N
  payload g _ d :=
    if g.2 = .reg barS then barPay g.1.1 d
    else if g.2 = .dma (recvS d) then recvPay m g.1.1 d
    else if g.2 = .dma (sendS d) then sendPay g.1.1 d
    else iprop(emp)
  amount_pos g _ _ _ := by
    by_cases h : g.2 = .reg barS
    · rw [if_pos h]; exact Nat.one_pos
    · rw [if_neg h]; exact N_pos

instance sched_storable (g : GSem nD τ sig) (r : ℕ) (d : Fin 4) :
    BI.Storable (upEmb : UEmb _ 𝕄) ((sched (F := F) m).payload g r d) := by
  show BI.Storable upEmb (if g.2 = .reg barS then barPay g.1.1 d else if g.2 = .dma (recvS d) then recvPay m g.1.1 d
    else if g.2 = .dma (sendS d) then sendPay g.1.1 d else iprop(emp))
  unfold barPay recvPay sendPay
  (repeat' split) <;> infer_instance

section Sched
variable (c : Dev nD)

theorem mem_duties_bar {d : Fin 4} (h : d ≠ yOf c) : d ∈ (sched (F := F) m).duties (barCell c) 0 :=
  Finset.mem_filter.mpr ⟨Finset.mem_univ _, rfl, rfl, h, .inl rfl⟩

theorem duties_bar : (sched (F := F) m).duties (barCell c) 0 = Finset.univ.erase (yOf c) := by
  ext d
  refine ⟨fun h => Finset.mem_erase.mpr ⟨(Finset.mem_filter.mp h).2.2.2.1, Finset.mem_univ _⟩,
    fun h => mem_duties_bar m c (Finset.mem_erase.mp h).1⟩

theorem duties_recv {k : Fin 4} (h : k ≠ yOf c) : (sched (F := F) m).duties (recvCell c k) 0 = {k} := by
  ext d
  rw [Finset.mem_singleton]
  constructor
  · intro hd
    obtain ⟨-, -, -, -, hb | hr | hs⟩ := Finset.mem_filter.mp hd
    · exact absurd hb (dma_ne_bar _)
    · exact (recv_loc_inj hr).symm
    · exact absurd hs.symm send_loc_ne_recv
  · rintro rfl; exact Finset.mem_filter.mpr ⟨Finset.mem_univ _, rfl, rfl, h, .inr (.inl rfl)⟩

theorem duties_send {k : Fin 4} (h : k ≠ yOf c) : (sched (F := F) m).duties (sendCell c k) 0 = {k} := by
  ext d
  rw [Finset.mem_singleton]
  constructor
  · intro hd
    obtain ⟨-, -, -, -, hb | hr | hs⟩ := Finset.mem_filter.mp hd
    · exact absurd hb (dma_ne_bar _)
    · exact absurd hr send_loc_ne_recv
    · exact (send_loc_inj hs).symm
  · rintro rfl; exact Finset.mem_filter.mpr ⟨Finset.mem_univ _, rfl, rfl, h, .inr (.inr rfl)⟩

theorem duties_later (g : GSem nD τ sig) : ∀ r, 1 ≤ r → (sched (F := F) m).duties g r = ∅ :=
  fun r hr => Finset.filter_eq_empty_iff.mpr fun d _ h => by omega

/-- A device's own receive and send semaphore at its own coordinate have no duty at all. -/
theorem duties_own_recv : ∀ r, 0 ≤ r → (sched (F := F) m).duties (recvCell c (yOf c)) r = ∅ :=
  fun r _ => Finset.filter_eq_empty_iff.mpr fun d _ h => by
    obtain ⟨-, -, hd, hb | hr | hs⟩ := h
    · exact dma_ne_bar _ hb
    · exact hd (recv_loc_inj hr).symm
    · exact send_loc_ne_recv hs.symm
theorem duties_own_send : ∀ r, 0 ≤ r → (sched (F := F) m).duties (sendCell c (yOf c)) r = ∅ :=
  fun r _ => Finset.filter_eq_empty_iff.mpr fun d _ h => by
    obtain ⟨-, -, hd, hb | hr | hs⟩ := h
    · exact dma_ne_bar _ hb
    · exact send_loc_ne_recv hr
    · exact hd (send_loc_inj hs).symm

theorem amount_bar (d : Fin 4) : (sched (F := F) m).amount (barCell c) 0 d = 1 := by dsimp only [sched]; exact if_pos rfl
theorem amount_dma (q : DmaSem sig) (d : Fin 4) : (sched (F := F) m).amount ((c : Thread nD τ), .dma q) 0 d = N := by dsimp only [sched]; exact if_neg (dma_ne_bar q)

theorem expect_bar : (sched (F := F) m).expect (barCell c) 0 = 3 := by
  unfold Schedule.expect Schedule.amountOf
  rw [duties_bar, Finset.sum_congr rfl fun d _ => amount_bar m c d, Finset.sum_const, Finset.card_erase_of_mem (Finset.mem_univ _),
    Finset.card_univ, Fintype.card_fin, smul_eq_mul]
theorem expect_recv {k : Fin 4} (h : k ≠ yOf c) : (sched (F := F) m).expect (recvCell c k) 0 = N := by
  unfold Schedule.expect Schedule.amountOf; rw [duties_recv m c h, Finset.sum_singleton, amount_dma]
theorem expect_send {k : Fin 4} (h : k ≠ yOf c) : (sched (F := F) m).expect (sendCell c k) 0 = N := by
  unfold Schedule.expect Schedule.amountOf; rw [duties_send m c h, Finset.sum_singleton, amount_dma]

theorem payload_bar (d : Fin 4) : (sched (F := F) m).payload (barCell c) 0 d = barPay c d := by dsimp only [sched]; exact if_pos rfl
theorem payload_recv (d : Fin 4) : (sched (F := F) m).payload (recvCell c d) 0 d = recvPay m c d := by
  dsimp only [sched]; rw [if_neg (dma_ne_bar _), if_pos rfl]
theorem payload_send (d : Fin 4) : (sched (F := F) m).payload (sendCell c d) 0 d = sendPay c d := by
  dsimp only [sched]; rw [if_neg (dma_ne_bar _), if_neg send_loc_ne_recv, if_pos rfl]

theorem rest_bar : bigSep ((sched (F := F) m).duties (barCell c) 0 \ ∅) (fun d => (sched (F := F) m).payload (barCell c) 0 d)
    = bigSep (Finset.univ.erase (yOf c)) fun d => barPay c d := by
  rw [Finset.sdiff_empty, duties_bar]
  exact congrArg (bigSep _) (funext fun d => payload_bar m c d)
theorem rest_recv {k : Fin 4} (h : k ≠ yOf c) :
    bigSep ((sched (F := F) m).duties (recvCell c k) 0 \ ∅) (fun d => (sched (F := F) m).payload (recvCell c k) 0 d) = recvPay m c k := by
  rw [Finset.sdiff_empty, duties_recv m c h, bigSep_singleton, payload_recv]
theorem rest_send {k : Fin 4} (h : k ≠ yOf c) :
    bigSep ((sched (F := F) m).duties (sendCell c k) 0 \ ∅) (fun d => (sched (F := F) m).payload (sendCell c k) 0 d) = sendPay c k := by
  rw [Finset.sdiff_empty, duties_send m c h, bigSep_singleton, payload_send]

end Sched

/-! ## What a device owes; the levels -/

/-- The block credits device `c` owes its peers' receive semaphores, -/
def owedRecv (c : Dev nD) : CellTallies nD τ sig Unit := ∑ j ∈ Finset.univ.erase (yOf c), tallyAt (recvCell (peer c j) (yOf c)) () N
/-- the units it owes their barriers, -/
def owedBar (c : Dev nD) : CellTallies nD τ sig Unit := ∑ j ∈ Finset.univ.erase (yOf c), tallyAt (barCell (peer c j)) () 1
/-- and both. -/
def O₀ (c : Dev nD) : CellTallies nD τ sig Unit := owedRecv c + owedBar c

def L (g : GSem nD τ sig) : Finset Unit := if g.1.2 = .tc then {()} else ∅
/-- The barriers at level 1, the receive semaphores at 2, all others at 0. -/
def lv (g : GSem nD τ sig) (_ : Unit) : ℕ := if g.2 = .reg barS then 1 else if ∃ k, g.2 = .dma (recvS k) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) (k : Fin 4) : lv (recvCell c k) () = 2 := by
  unfold lv; rw [if_neg (dma_ne_bar _)]; exact if_pos ⟨k, rfl⟩
theorem lv_copy (c : Dev nD) (k : Fin 4) : lv (copyCell c k) () = 0 := by
  unfold lv; rw [if_neg (dma_ne_bar _)]; exact if_neg fun ⟨j, h⟩ => copy_loc_ne_recv h

/-- Only receive semaphores are owed. -/
def OnlyRecv (O : CellTallies nD τ sig Unit) : Prop := ∀ (g : GSem nD τ sig) (u : Unit), 0 < O g u → ∃ c k, g = recvCell c k

theorem onlyRecv_zero : OnlyRecv 0 := fun g u h => absurd h (Nat.lt_irrefl 0)
theorem onlyRecv_add {O : CellTallies nD τ sig Unit} (hO : OnlyRecv O) (c : Dev nD) (k : Fin 4) (n : ℕ) :
    OnlyRecv (O + tallyAt (recvCell c k) () n) := fun g u h => by
  rw [Pi.add_apply, Finsupp.add_apply, tallyAt_apply] at h
  by_cases hg : g = recvCell c k ∧ u = ()
  · exact ⟨c, k, hg.1⟩
  · rw [if_neg hg, Nat.add_zero] at h; exact hO g u h

/-- A wait on a cell below the receive semaphores is allowed while only they are owed. -/
theorem mayWait_of_onlyRecv (c : Dev nD) (sm : SemLoc sig) (hsm : lv ((c : Thread nD τ), sm) () ≤ 1) {O : CellTallies nD τ sig Unit}
    (hO : OnlyRecv O) : (levAts L lv : sProp 𝕄) ⊢ MayWait (c : Thread nD τ) sm () O :=
  MayOwe.of_cut (L := L) (lev := lv) 1 (fun p hp => by rw [Finset.mem_singleton.mp hp, L_tc]; exact Finset.mem_singleton_self _)
    (fun g u hg => by obtain ⟨c', k, rfl⟩ := hO g u hg; rw [L_tc]; exact Finset.mem_singleton_self _)
    (fun p hp => by rw [Finset.mem_singleton.mp hp]; exact hsm)
    (fun g u hg => by obtain ⟨c', k, rfl⟩ := hO g u hg; rw [lv_recv]; decide)

/-! ## The records every device may read -/

/-- All cells' invariants, under the names `K`, and that each cell has reached round 0. -/
def records (K : Dev nD × Cell → ℕ) : sProp 𝕄 :=
  bigSep Finset.univ fun x : Dev nD × Cell => iprop(cellInv ER (sched m) (K x) (kcell x) ∗ reached ER (kcell x) 0)

instance records_persistent (K : Dev nD × Cell → ℕ) : BI.Persistent (records m K) := by unfold records; infer_instance

theorem record_at (K : Dev nD × Cell → ℕ) (x : Dev nD × Cell) :
    records m K ⊢ iprop(cellInv ER (sched m) (K x) (kcell x) ∗ reached ER (kcell x) 0) := by
  unfold records; exact bigSep_elim (Finset.mem_univ x)

/-- What device `c` still owes, whatever waits it has on record. -/
def owing (c : Dev nD) (O : CellTallies nD τ sig Unit) : sProp 𝕄 := iprop(∃ W, owes (c : Thread nD τ) O W)

end Cert.AllToAll

end
-- ==== Proof.Steps.lean ====
/-
# The kernel's steps, one rule each

Each step of a branch, at any block number: what a device must hold to run it and what it holds afterwards.
-/
module

public import proofs.«01_k».proof.Proof.Protocol

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of device `c`'s kernel. -/
abbrev wpc (c : Dev nD) (p : Steps F) (Q : PUnit → sProp 𝕄) : sProp 𝕄 :=
  wp frame (wpE (defs₀ (F := F)) 𝒱₀ (c : Thread nD τ) none) Set.univ p Q

/-! ## Blocks -/

/-- A block just written at `w` is held at `w`. -/
theorem written (c : Dev nD) {sp : Space} (b : Memref sig .tc sp S256x256 .bf16) (f : Buf (Elt F) (b.view.loc (c : Thread nD τ)))
    (w : S256x256.Idx → Elt F .bf16) :
    (b.view.loc (c : Thread nD τ) ↦[b.view.set]{fullShare} (b.view.write (Elt F) f w Finset.univ) : sProp 𝕄) ⊢ owns (c : Thread nD τ) b fullShare w := by
  refine (owns_intro (c : Thread nD τ) b fullShare _).trans (Entails.of_eq ?_)
  rw [View.read_write_univ]

/-- The two changes of shape of a stage undo each other. -/
theorem pay_eq (v : Vec F S1x256x256 .bf16) : pay v = v := by
  funext i
  show v (Shape.reshapeEquiv _ (Shape.reshapeEquiv _ i)) = v i
  rw [Shape.reshapeEquiv_reshapeEquiv, Shape.reshapeEquiv_self]

/-- The elements a load or a store of slot `j` touches are the slot's. -/
theorem slot_load (M : Memref sig .tc .vmem S4x256x256 .bf16) (j : Fin 4) :
    M.view.setOn (rV j).toLoadRect.set ⊆ ((M.slice (rV j) (fun _ => rfl)).squeeze S256x256 squeezes_S1x256x256_S256x256).view.set := by
  have h := View.set_reshape (M.view.slice (rV j)) (s' := S256x256) squeezes_S1x256x256_S256x256.numel_eq
  exact fun x hx => h.symm.subset ((View.set_slice M.view (rV j)).symm.subset hx)
theorem slot_store (M : Memref sig .tc .vmem S4x256x256 .bf16) (j : Fin 4) :
    (M.access (rV j)).setOn Finset.univ ⊆ ((M.slice (rV j) (fun _ => rfl)).squeeze S256x256 squeezes_S1x256x256_S256x256).view.set := by
  have h := View.set_reshape (M.view.slice (rV j)) (s' := S256x256) squeezes_S1x256x256_S256x256.numel_eq
  exact fun x hx => h.symm.subset hx

/-- What a stage leaves in a slot of the sending buffer is what it loaded from the slot of the other. -/
theorem staged (j : Fin 4) (f : (cc0_scratch0 : Ref sig .tc).ty.Contents (Elt F)) (g : (cc0_scratch1 : Ref sig .tc).ty.Contents (Elt F)) :
    (sB j).view.read (Elt F) ((sM.access (rV j)).write (Elt F) g (pay (vM.view.readAt (Elt F) (rV j).toLoadRect f)) Finset.univ)
      = (vB j).view.read (Elt F) f := by
  rw [pay_eq]
  funext x
  show (sM.access (rV j)).read (Elt F) _ (Shape.reshapeEquiv _ x) = _
  rw [View.read_write_univ]
  rfl

/-! ## Signals and waits -/

/-- A signal to the peer at `j` hands over the row block of this device's result that the peer fills. -/
theorem wp_signalP (K : Dev nD × Cell → ℕ) (c : Dev nD) {j : Fin 4} (hj : j ≠ yOf c) {O O' : CellTallies nD τ sig Unit}
    (hO : O' = O + tallyAt (barCell (peer c j)) () 1) {k : PUnit → Steps F} {Q : PUnit → sProp 𝕄} :
    iprop(records m K ∗ owing c O' ∗ dutyTok ER (barCell (peer c j)) 0 (yOf c) ∗ someBlock c (oB j))
      ⊢ iprop((owing c O -∗ wpc c (k ⟨⟩) Q) -∗ wpc c (signalP (peer c j) >>= k) Q) := by
  unfold owing
  iintro ⟨#HR, ⟨%W, HO⟩, Ht, Hb⟩ Hk
  ihave Hc := (record_at m K (peer c j, none)) $$ HR
  icases Hc with ⟨#HI, #Hr⟩
  iapply (Rounds.wp_signal 𝒱₀ ER (sched m) (c : Thread nD τ) none (dst := (peer c j : Thread nD τ)) (κ := K (peer c j, none))
      (d := yOf c) (mem_duties_bar m (peer c j) (by rw [yOf_peer]; exact hj.symm)) ((amount_bar m (peer c j) _).trans (by decide)) () O hO)
    $$ [HO Ht Hb]
  · isplitr; · iexact HI
    isplitl [HO]; · iexact HO
    isplitl [Ht]; · iexact Ht
    isplitl [Hb]
    · rw [payload_bar]; unfold barPay; rw [peer_peer, peer_self, yOf_peer]; iexact Hb
    · iexact Hr
  iintro HO
  iapply Hk
  iexists W; iexact HO

/-- The wait on the barrier brings every peer's row block this device is to fill. -/
theorem wp_barrierP (K : Dev nD × Cell → ℕ) (c : Dev nD) {O : CellTallies nD τ sig Unit} (hO : OnlyRecv O)
    {k : PUnit → Steps F} {Q : PUnit → sProp 𝕄} :
    iprop(records m K ∗ levAts L lv ∗ owing c O ∗ cred (tallyAt (barCell c) () 3) ∗ atPos ER (barCell c) 0 ∅ 0)
      ⊢ iprop((iprop(owing c O ∗ semVal (barCell c) 0 ∗ bigSep (Finset.univ.erase (yOf c)) fun d => someBlock (peer c d) (oB (yOf c)))
            -∗ wpc c (k ⟨⟩) Q) -∗ wpc c (barrierP >>= k) Q) := by
  unfold owing
  iintro ⟨#HR, #Hlev, ⟨%W, HO⟩, Hc, Hat⟩ Hk
  ihave Hi := (record_at m K (c, none)) $$ HR
  icases Hi with ⟨#HI, -⟩
  iapply (Rounds.wp_wait_rest_token 𝒱₀ ER (sched m) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [Hc HO Hat]
  · isplitr; · iexact HI
    isplitl [Hc]; · iexact Hc
    isplitl [HO]; · iexact HO
    isplitr; · iapply (mayWait_of_onlyRecv c (.reg barS) (by rw [lv_bar]) hO); iexact Hlev
    iexact Hat
  iintro ⟨HO, Hat, -, Hpay⟩
  ihave Hp := (Entails.of_eq (rest_bar m c)) $$ Hpay
  imod (Rounds.cell_close ER (sched m) (Set.mem_univ (K (c, none))) (fun h => h) (R := 0 + 1) (duties_later m (barCell c))) $$ [Hat] with Hz
  · isplitr; · iexact HI
    iexact Hat
  iapply Hk
  isplitl [HO]; · iexists _; iexact HO
  isplitl [Hz]; · iexact Hz
  iexact Hp

/-- A transfer's wait brings what its duty hands over, and the cell closes. -/
theorem wp_recvP (K : Dev nD × Cell → ℕ) (c : Dev nD) {s : Fin 4} (hs : s ≠ yOf c) {k : PUnit → Steps F} {Q : PUnit → sProp 𝕄} :
    iprop(records m K ∗ owing c 0 ∗ cred (tallyAt (recvCell c s) () N) ∗ atPos ER (recvCell c s) 0 ∅ 0)
      ⊢ iprop((iprop(owing c 0 ∗ semVal (recvCell c s) 0 ∗ owns (c : Thread nD τ) (oB s) fullShare (blk m (peer c s) (yOf c)))
            -∗ wpc c (k ⟨⟩) Q) -∗ wpc c (recvP s >>= k) Q) := by
  unfold owing
  iintro ⟨#HR, ⟨%W, HO⟩, Hc, Hat⟩ Hk
  ihave Hi := (record_at m K (c, some (true, s))) $$ HR
  icases Hi with ⟨#HI, -⟩
  iapply (Rounds.wp_wait_rest_token 𝒱₀ ER (sched m) (c : Thread nD τ) none (κ := K (c, some (true, s)))
      (wpE_waitDma2_eq 𝒱₀ (c : Thread nD τ) none Set.univ) (Set.mem_univ _) () (O := 0) (W := W) (R := 0) (m := 0) (T := ∅)
      (by rw [Nat.zero_add, expect_recv m c hs]; rfl)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq ((rest_recv m c hs).trans (recvPay.eq_1 m c s))) $$ Hpay
  imod (Rounds.cell_close ER (sched m) (Set.mem_univ (K (c, some (true, s)))) (fun h => h) (R := 0 + 1) (duties_later m (recvCell c s))) $$ [Hat] with Hz
  · isplitr; · iexact HI
    iexact Hat
  iapply Hk
  isplitl [HO]; · iexists _; iexact HO
  isplitl [Hz]; · iexact Hz
  iexact Hp

/-- The wait on a send brings the sending slot back. -/
theorem wp_sentP (K : Dev nD × Cell → ℕ) (c : Dev nD) (i : Fin 4) {j : Fin 4} (hj : j ≠ yOf c) {k : PUnit → Steps F} {Q : PUnit → sProp 𝕄} :
    iprop(records m K ∗ owing c 0 ∗ cred (tallyAt (sendCell c j) () N) ∗ atPos ER (sendCell c j) 0 ∅ 0)
      ⊢ iprop((iprop(owing c 0 ∗ semVal (sendCell c j) 0 ∗ someBlock c (sB j)) -∗ wpc c (k ⟨⟩) Q) -∗ wpc c (sentP i j >>= k) Q) := by
  unfold owing
  iintro ⟨#HR, ⟨%W, HO⟩, Hc, Hat⟩ Hk
  ihave Hi := (record_at m K (c, some (false, j))) $$ HR
  icases Hi with ⟨#HI, -⟩
  iapply (Rounds.wp_wait_rest_token 𝒱₀ ER (sched m) (c : Thread nD τ) none (κ := K (c, some (false, j)))
      (wpE_waitDma2_eq 𝒱₀ (c : Thread nD τ) none Set.univ) (Set.mem_univ _) () (O := 0) (W := W) (R := 0) (m := 0) (T := ∅)
      (by rw [Nat.zero_add, expect_send m c hj]; rfl)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq ((rest_send m c hj).trans (sendPay.eq_1 c j))) $$ Hpay
  imod (Rounds.cell_close ER (sched m) (Set.mem_univ (K (c, some (false, j)))) (fun h => h) (R := 0 + 1) (duties_later m (sendCell c j))) $$ [Hat] with Hz
  · isplitr; · iexact HI
    iexact Hat
  iapply Hk
  isplitl [HO]; · iexists _; iexact HO
  isplitl [Hz]; · iexact Hz
  iexact Hp

/-! ## The transfers -/

/-- Sending block `j` to the peer at `j`: its row block for this device goes back to it filled. -/
theorem wp_sendP (K : Dev nD × Cell → ℕ) (c : Dev nD) {j : Fin 4} (hj : j ≠ yOf c) {O O' : CellTallies nD τ sig Unit}
    (hO : O' = O + tallyAt (recvCell (peer c j) (yOf c)) () N) {k : PUnit → Steps F} {Q : PUnit → sProp 𝕄} :
    iprop(records m K ∗ owing c O' ∗ dutyTok ER (sendCell c j) 0 j ∗ dutyTok ER (recvCell (peer c j) (yOf c)) 0 (yOf c)
        ∗ owns (c : Thread nD τ) (sB j) fullShare (blk m c j) ∗ someBlock (peer c j) (oB (yOf c)))
      ⊢ iprop((iprop(owing c O ∗ cred (tallyAt (sendCell c j) () N)) -∗ wpc c (k ⟨⟩) Q) -∗ wpc c (sendP (yOf c) j (peer c j) >>= k) Q) := by
  unfold owing someBlock owns
  iintro ⟨#HR, ⟨%W, HO⟩, Hts, Htr, ⟨%fs, %hfs, Hs⟩, ⟨%w, %fd, %hfd, Hd⟩⟩ Hk
  ihave Hi := (record_at m K (c, some (false, j))) $$ HR
  icases Hi with ⟨#HIs, #Hrs⟩
  ihave Hi := (record_at m K (peer c j, some (true, yOf c))) $$ HR
  icases Hi with ⟨#HIr, #Hrr⟩
  iapply (Rounds.wp_send_pointsTo 𝒱₀ ER (sched m) (c : Thread nD τ) none (c' := (peer c j : Thread nD τ)) (src := sB j) (dst := oB (yOf c))
      (κ₁ := K (c, some (false, j))) (κ₂ := K (peer c j, some (true, yOf c)))
      (r₁ := 0) (r₂ := 0) (d₁ := j) (d₂ := yOf c) (fs := fs) (fd := fd)
      (by rw [duties_send m c hj]; exact Finset.mem_singleton_self _)
      (by rw [duties_recv m (peer c j) (by rw [yOf_peer]; exact hj.symm)]; exact Finset.mem_singleton_self _)
      () () N rfl (amount_dma m c _ j) (amount_dma m (peer c j) _ _) O hO (W := W)
      (by rw [payload_send]; unfold sendPay; iintro H; iexists _; iapply (owns_intro (c : Thread nD τ) (sB j) fullShare fs); iexact H)
      (by rw [payload_recv]; unfold recvPay; rw [peer_peer, peer_self, yOf_peer, hfs]; exact written (peer c j) (oB (yOf c)) fd _)) $$ [HO Hts Htr Hs Hd]
  · isplitr; · iexact HIs
    isplitr; · iexact HIr
    isplitl [Hs]; · iexact Hs
    isplitl [Hd]; · iexact Hd
    isplitl [HO]; · iexact HO
    isplitl [Hts]; · iexact Hts
    isplitr; · iexact Hrs
    isplitl [Htr]; · iexact Htr
    iexact Hrr
  iintro ⟨Hc, HO⟩
  iapply Hk
  isplitl [HO]; · iexists _; iexact HO
  iexact Hc

/-- A device's own copy under way: semaphore `q` will bring block `b` at `w` and the block it is read from. -/
def underWay (c : Dev nD) (q : DmaSem sig) {sp sp' : Space} (a : Memref sig .tc sp S256x256 .bf16) (b : Memref sig .tc sp' S256x256 .bf16)
    (w : S256x256.Idx → Elt F .bf16) : sProp 𝕄 :=
  iprop(∃ (fs : Buf (Elt F) (a.view.loc (c : Thread nD τ))) (fd : Buf (Elt F) (b.view.loc (c : Thread nD τ))), ⌜a.view.read (Elt F) fs = w⌝
    ∗ Transfers.Flight EC (c : Thread nD τ) (.dma q) () N
      iprop((b.view.loc (c : Thread nD τ) ↦[b.view.set]{fullShare} (b.view.write (Elt F) fd (a.view.read (Elt F) fs) Finset.univ))
        ∗ (a.view.loc (c : Thread nD τ) ↦[a.view.set]{fullShare} fs)))

/-- A copy between two of the device's own blocks, started; -/
theorem wp_startLocal (c : Dev nD) {sp sp' : Space} (a : Memref sig .tc sp S256x256 .bf16) (b : Memref sig .tc sp' S256x256 .bf16)
    (q : DmaSem sig) (hN : b.view.amount (.dma q) = N) {ha : a.view.WordExact} {hb : (DmaTarget.here (nD := nD) (τ := τ) (p := .tc) b).view.WordExact}
    {hsem : DmaTarget.Typed (nD := nD) (τ := τ) (p := .tc) sp (.dma q) (.here b)}
    (w : S256x256.Idx → Elt F .bf16) {k : PUnit → Steps F} {Q : PUnit → sProp 𝕄} :
    iprop(owns (c : Thread nD τ) a fullShare w ∗ someBlock c b ∗ semVal ((c : Thread nD τ), SemLoc.dma q) 0)
      ⊢ iprop((underWay c q a b w -∗ wpc c (k ⟨⟩) Q) -∗ wpc c (.op (.enqueueDma a (.here b) (.dma q) ha hb hsem) k) Q) := by
  unfold underWay someBlock owns
  iintro ⟨⟨%fs, %hfs, Ha⟩, ⟨%w', %fd, %hfd, Hb⟩, Hq⟩ Hk
  iapply (Transfers.wp_dmaLocal EC 𝒱₀ (c : Thread nD τ) none (src := a) (dst := b) (via := .same) (fs := fs) (fd := fd) () N hN N_pos (Finset.Subset.refl _)) $$ [Ha Hb Hq]
  · isplitl [Ha]; · iexact Ha
    isplitl [Hb]; · iexact Hb
    iexact Hq
  iintro HF
  iapply Hk
  iexists fs, fd
  isplitr; · ipureintro; exact hfs
  iexact HF

/-- and waited for. -/
theorem wp_waitLocal (c : Dev nD) {sp sp' : Space} (a : Memref sig .tc sp S256x256 .bf16) (b : Memref sig .tc sp' S256x256 .bf16)
    (j : Fin 4) (hN : b.view.dmaCredit = N) {ha : a.view.WordExact} {hb : b.view.WordExact} {O : CellTallies nD τ sig Unit} (hO : OnlyRecv O)
    (w : S256x256.Idx → Elt F .bf16) {k : PUnit → Steps F} {Q : PUnit → sProp 𝕄} :
    iprop(levAts L lv ∗ owing c O ∗ underWay c (copyS j) a b w)
      ⊢ iprop((iprop(owing c O ∗ semVal (copyCell c j) 0 ∗ owns (c : Thread nD τ) a fullShare w ∗ owns (c : Thread nD τ) b fullShare w)
          -∗ wpc c (k ⟨⟩) Q) -∗ wpc c (.op (.waitDma2 (copyS j) a b ha hb) k) Q) := by
  unfold underWay owing
  iintro ⟨#Hlev, ⟨%W, HO⟩, ⟨%fs, %fd, %hfs, HF⟩⟩ Hk
  iapply (Transfers.wp_waitLocalO EC 𝒱₀ (c : Thread nD τ) none () hN (O := O) (W := W)) $$ [HO HF]
  · isplitl [HF]; · iexact HF
    isplitl [HO]; · iexact HO
    iapply (mayWait_of_onlyRecv c (.dma (copyS j)) (by rw [lv_copy]; decide) hO); iexact Hlev
  iintro ⟨⟨Hb, Ha⟩, Hq, HO⟩
  iapply Hk
  isplitl [HO]; · iexists _; iexact HO
  isplitl [Hq]; · iexact Hq
  subst hfs
  isplitl [Ha]; · iapply (owns_intro (c : Thread nD τ) a fullShare fs); iexact Ha
  iapply (written c b fd _); iexact Hb

theorem wp_fetchP (c : Dev nD) (j : Fin 4) (w : S256x256.Idx → Elt F .bf16) {k : PUnit → Steps F} {Q : PUnit → sProp 𝕄} :
    iprop(owns (c : Thread nD τ) (xB j) fullShare w ∗ someBlock c (vB j) ∗ semVal (copyCell c j) 0)
      ⊢ iprop((underWay c (copyS j) (xB j) (vB j) w -∗ wpc c (k ⟨⟩) Q) -∗ wpc c (fetchP j >>= k) Q) :=
  wp_startLocal c (xB j) (vB j) (copyS j) rfl w

theorem wp_ownP (c : Dev nD) (i : Fin 4) (w : S256x256.Idx → Elt F .bf16) {k : PUnit → Steps F} {Q : PUnit → sProp 𝕄} :
    iprop(owns (c : Thread nD τ) (sB i) fullShare w ∗ someBlock c (oB i) ∗ semVal (copyCell c i) 0)
      ⊢ iprop((underWay c (copyS i) (sB i) (oB i) w -∗ wpc c (k ⟨⟩) Q) -∗ wpc c (ownP i >>= k) Q) :=
  wp_startLocal c (sB i) (oB i) (copyS i) rfl w

theorem wp_ownWaitP (c : Dev nD) (i : Fin 4) {O : CellTallies nD τ sig Unit} (hO : OnlyRecv O) (w : S256x256.Idx → Elt F .bf16)
    {k : PUnit → Steps F} {Q : PUnit → sProp 𝕄} :
    iprop(levAts L lv ∗ owing c O ∗ underWay c (copyS i) (sB i) (oB i) w)
      ⊢ iprop((iprop(owing c O ∗ semVal (copyCell c i) 0 ∗ owns (c : Thread nD τ) (sB i) fullShare w ∗ owns (c : Thread nD τ) (oB i) fullShare w)
          -∗ wpc c (k ⟨⟩) Q) -∗ wpc c (ownWaitP i >>= k) Q) :=
  wp_waitLocal c (sB i) (oB i) i (creditO i) hO w

/-- A stage: the fetched block is in its slot and goes to the sending slot. -/
theorem wp_stageP (c : Dev nD) (j : Fin 4) {O : CellTallies nD τ sig Unit} (hO : OnlyRecv O) (w : S256x256.Idx → Elt F .bf16)
    {k : PUnit → Steps F} {Q : PUnit → sProp 𝕄} :
    iprop(levAts L lv ∗ owing c O ∗ underWay c (copyS j) (xB j) (vB j) w ∗ someBlock c (sB j))
      ⊢ iprop((iprop(owing c O ∗ semVal (copyCell c j) 0 ∗ owns (c : Thread nD τ) (xB j) fullShare w ∗ someBlock c (vB j)
            ∗ owns (c : Thread nD τ) (sB j) fullShare w) -∗ wpc c (k ⟨⟩) Q) -∗ wpc c (stageP j >>= k) Q) := by
  iintro ⟨#Hlev, HO, HF, Hs⟩ Hk
  iapply (wp_waitLocal c (xB j) (vB j) j (creditV j) hO w) $$ [HO HF]
  · isplitr; · iexact Hlev
    isplitl [HO]; · iexact HO
    iexact HF
  unfold someBlock owns
  iintro ⟨HO, Hq, Hx, ⟨%f, %hf, Hv⟩⟩
  icases Hs with ⟨%w', %g, %hg, Hs⟩
  iapply (wp_load 𝒱₀ (c : Thread nD τ) none Set.univ (m := vM) (r := (rV j).toLoadRect) (S := (vB j).view.set) (f := f) (slot_load vM j)) $$ Hv; iintro Hv
  iapply (wp_load 𝒱₀ (c : Thread nD τ) none Set.univ (m := sM) (r := (rV j).toLoadRect) (S := (sB j).view.set) (f := g) (slot_load sM j)) $$ Hs; iintro Hs
  iapply (wp_store 𝒱₀ (c : Thread nD τ) none Set.univ (m := sM) (r := rV j) (Mk := Finset.univ) (S := (sB j).view.set) (f := g) (slot_store sM j)) $$ Hs; iintro Hs
  iapply Hk
  isplitl [HO]; · iexact HO
  isplitl [Hq]; · iexact Hq
  isplitl [Hx]; · iexact Hx
  isplitl [Hv]
  · iexists w, f
    isplitr; · ipureintro; exact hf
    iexact Hv
  iexists _
  isplitr
  · ipureintro; rw [← hf]; exact staged j f g
  iexact Hs

end Cert.AllToAll

end
-- ==== Proof.Body.lean ====
/-
# One device's kernel

A branch run from what a device starts with to what it ends with, at any device and any order of its three peers; and the
whole body, which is the branch of the device's own coordinate.
-/
module

public import proofs.«01_k».proof.Proof.Steps

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What a device starts and ends with -/

/-- Block `j` of the argument, as given, and row block `j` of the result, not yet written; -/
def given (c : Dev nD) (j : Fin 4) : sProp 𝕄 := iprop(owns (c : Thread nD τ) (xB j) fullShare (blk m c j) ∗ someBlock c (oB j))
/-- the same at the end: the row block holds the block of columns of the peer at `j`. -/
def traded (c : Dev nD) (j : Fin 4) : sProp 𝕄 :=
  iprop(owns (c : Thread nD τ) (xB j) fullShare (blk m c j) ∗ owns (c : Thread nD τ) (oB j) fullShare (blk m (peer c j) (yOf c)))
/-- The two scratch slots numbered `j`. -/
def scratch (c : Dev nD) (j : Fin 4) : sProp 𝕄 := iprop(someBlock c (vB j) ∗ someBlock c (sB j))
/-- The three semaphores numbered `j`, at the start, -/
def fresh (c : Dev nD) (j : Fin 4) : sProp 𝕄 :=
  iprop(semVal (copyCell c j) 0 ∗ atPos ER (sendCell c j) 0 ∅ 0 ∗ atPos ER (recvCell c j) 0 ∅ 0)
/-- and at the end, at zero. -/
def quiet (c : Dev nD) (j : Fin 4) : sProp 𝕄 :=
  iprop(semVal (copyCell c j) 0 ∗ semVal (sendCell c j) 0 ∗ semVal (recvCell c j) 0)
/-- The duties a device has towards its peer at `j`, and the credit for what that peer sends it. -/
def duty (c : Dev nD) (j : Fin 4) : sProp 𝕄 :=
  iprop(dutyTok ER (barCell (peer c j)) 0 (yOf c) ∗ dutyTok ER (sendCell c j) 0 j ∗ dutyTok ER (recvCell (peer c j) (yOf c)) 0 (yOf c)
    ∗ cred (tallyAt (recvCell c j) () N))

def startOf (K : Dev nD × Cell → ℕ) (c : Dev nD) : sProp 𝕄 :=
  iprop(records m K ∗ levAts L lv ∗ atPos ER (barCell c) 0 ∅ 0 ∗ cred (tallyAt (barCell c) () 3)
    ∗ bigSep Finset.univ (given m c) ∗ bigSep Finset.univ (scratch c) ∗ bigSep Finset.univ (fresh c)
    ∗ bigSep (Finset.univ.erase (yOf c)) (duty c))

def finishOf (c : Dev nD) : sProp 𝕄 :=
  iprop(semVal (barCell c) 0 ∗ bigSep Finset.univ (traded m c) ∗ bigSep Finset.univ (scratch c) ∗ bigSep Finset.univ (quiet c))

/-! ## The peers in the kernel's order -/

/-- `j₁ j₂ j₃` are the coordinates other than `i`. -/
def Others (i j₁ j₂ j₃ : Fin 4) : Prop := Finset.univ.erase i = [j₁, j₂, j₃].toFinset ∧ [j₁, j₂, j₃].Nodup

section Order
variable {i j₁ j₂ j₃ : Fin 4} (h : Others i j₁ j₂ j₃)
include h

theorem others_sep (Φ : Fin 4 → sProp 𝕄) : bigSep (Finset.univ.erase i) Φ = iprop(Φ j₁ ∗ Φ j₂ ∗ Φ j₃) := by
  rw [bigSep_eq_bigSepL_of_eq [j₁, j₂, j₃] h.1 h.2]; rfl

theorem all_sep (Φ : Fin 4 → sProp 𝕄) : bigSep Finset.univ Φ = iprop(Φ i ∗ Φ j₁ ∗ Φ j₂ ∗ Φ j₃) := by
  rw [← others_sep h Φ]; exact bigSep_erase (Finset.mem_univ i)

theorem others_sum {A : Type} [AddCommMonoid A] (f : Fin 4 → A) : ∑ j ∈ Finset.univ.erase i, f j = f j₃ + f j₂ + f j₁ := by
  rw [h.1, List.sum_toFinset _ h.2]
  simp only [List.map_cons, List.map_nil, List.sum_cons, List.sum_nil, add_zero]
  rw [add_comm (f j₂), add_comm (f j₁)]

theorem others_mem {j : Fin 4} (hj : j ∈ [j₁, j₂, j₃]) : j ≠ i :=
  (Finset.mem_erase.mp (by rw [h.1]; exact List.mem_toFinset.mpr hj)).1

end Order

/-! ## A branch -/

set_option maxHeartbeats 1600000 in
/-- The branch of a device's own coordinate, its peers in any order. -/
theorem wp_branch (K : Dev nD × Cell → ℕ) (c : Dev nD) {j₁ j₂ j₃ : Fin 4} (h : Others (yOf c) j₁ j₂ j₃) {Q : PUnit → sProp 𝕄} :
    iprop(startOf m K c ∗ owing c (O₀ c))
      ⊢ iprop((iprop(finishOf m c ∗ owing c 0) -∗ Q ⟨⟩)
        -∗ wpc c (branch (yOf c) j₁ j₂ j₃ (peer c j₁) (peer c j₂) (peer c j₃) (peer c j₁) (peer c j₂) (peer c j₃)) Q) := by
  have h₁ : j₁ ≠ yOf c := others_mem h (by simp)
  have h₂ : j₂ ≠ yOf c := others_mem h (by simp)
  have h₃ : j₃ ≠ yOf c := others_mem h (by simp)
  -- what is owed, in the order it is paid
  have hO : O₀ c = 0 + tallyAt (recvCell (peer c j₃) (yOf c)) () N + tallyAt (recvCell (peer c j₂) (yOf c)) () N
      + tallyAt (recvCell (peer c j₁) (yOf c)) () N + tallyAt (barCell (peer c j₃)) () 1 + tallyAt (barCell (peer c j₂)) () 1
      + tallyAt (barCell (peer c j₁)) () 1 := by
    unfold O₀ owedRecv owedBar
    rw [others_sum h, others_sum h]
    simp only [zero_add, add_assoc]
  have o₁ : OnlyRecv (0 + tallyAt (recvCell (peer c j₃) (yOf c)) () N) := onlyRecv_add onlyRecv_zero _ _ _
  have o₂ := onlyRecv_add o₁ (peer c j₂) (yOf c) N
  have o₃ := onlyRecv_add o₂ (peer c j₁) (yOf c) N
  unfold startOf finishOf branch
  simp only [all_sep h, others_sep h]
  unfold given traded scratch fresh quiet duty
  rw [hO]
  iintro ⟨⟨#HR, #Hlev, Hat, Hcr, ⟨⟨Hx0, Ho0⟩, ⟨Hx1, Ho1⟩, ⟨Hx2, Ho2⟩, ⟨Hx3, Ho3⟩⟩, ⟨⟨Hv0, Hs0⟩, ⟨Hv1, Hs1⟩, ⟨Hv2, Hs2⟩, ⟨Hv3, Hs3⟩⟩,
    ⟨⟨Hq0, Has0, Har0⟩, ⟨Hq1, Has1, Har1⟩, ⟨Hq2, Has2, Har2⟩, ⟨Hq3, Has3, Har3⟩⟩,
    ⟨⟨Hb1, Hts1, Htr1, Hc1⟩, ⟨Hb2, Hts2, Htr2, Hc2⟩, ⟨Hb3, Hts3, Htr3, Hc3⟩⟩⟩, HO⟩ Hk
  -- the semaphores at the device's own coordinate are never used
  ihave Hi := (record_at m K (c, some (false, yOf c))) $$ HR
  icases Hi with ⟨#HIs, -⟩
  ihave Hi := (record_at m K (c, some (true, yOf c))) $$ HR
  icases Hi with ⟨#HIr, -⟩
  imod (Rounds.cell_close ER (sched m) (Set.mem_univ (K (c, some (false, yOf c)))) (fun h => h) (R := 0) (duties_own_send m c)) $$ [Has0] with Hzs0
  · isplitr; · iexact HIs
    iexact Has0
  imod (Rounds.cell_close ER (sched m) (Set.mem_univ (K (c, some (true, yOf c)))) (fun h => h) (R := 0) (duties_own_recv m c)) $$ [Har0] with Hzr0
  · isplitr; · iexact HIr
    iexact Har0
  -- the signals
  iapply (wp_signalP m K c h₁ rfl) $$ [HO Hb1 Ho1]
  · iframe
    iexact HR
  iintro HO
  iapply (wp_signalP m K c h₂ rfl) $$ [HO Hb2 Ho2]
  · iframe
    iexact HR
  iintro HO
  iapply (wp_signalP m K c h₃ rfl) $$ [HO Hb3 Ho3]
  · iframe
    iexact HR
  iintro HO
  -- the copies in
  iapply (wp_fetchP c j₁ (blk m c j₁)) $$ [Hx1 Hv1 Hq1]
  · iframe
  iintro Hf1
  iapply (wp_fetchP c j₂ (blk m c j₂)) $$ [Hx2 Hv2 Hq2]
  · iframe
  iintro Hf2
  iapply (wp_fetchP c j₃ (blk m c j₃)) $$ [Hx3 Hv3 Hq3]
  · iframe
  iintro Hf3
  iapply (wp_fetchP c (yOf c) (blk m c (yOf c))) $$ [Hx0 Hv0 Hq0]
  · iframe
  iintro Hf0
  -- the blocks to send, staged
  iapply (wp_stageP c j₁ o₃ (blk m c j₁)) $$ [HO Hf1 Hs1]
  · iframe
    iexact Hlev
  iintro ⟨HO, Hq1, Hx1, Hv1, Hs1⟩
  iapply (wp_stageP c j₂ o₃ (blk m c j₂)) $$ [HO Hf2 Hs2]
  · iframe
    iexact Hlev
  iintro ⟨HO, Hq2, Hx2, Hv2, Hs2⟩
  iapply (wp_stageP c j₃ o₃ (blk m c j₃)) $$ [HO Hf3 Hs3]
  · iframe
    iexact Hlev
  iintro ⟨HO, Hq3, Hx3, Hv3, Hs3⟩
  -- every peer has started
  iapply (wp_barrierP m K c o₃) $$ [HO Hcr Hat]
  · iframe
    isplitr; · iexact HR
    iexact Hlev
  rw [others_sep h]
  iintro ⟨HO, Hzb, Hp1, Hp2, Hp3⟩
  -- the sends
  iapply (wp_sendP m K c h₁ rfl) $$ [HO Hts1 Htr1 Hs1 Hp1]
  · iframe
    iexact HR
  iintro ⟨HO, Hcs1⟩
  iapply (wp_sendP m K c h₂ rfl) $$ [HO Hts2 Htr2 Hs2 Hp2]
  · iframe
    iexact HR
  iintro ⟨HO, Hcs2⟩
  iapply (wp_sendP m K c h₃ rfl) $$ [HO Hts3 Htr3 Hs3 Hp3]
  · iframe
    iexact HR
  iintro ⟨HO, Hcs3⟩
  -- the device's own block
  iapply (wp_stageP c (yOf c) onlyRecv_zero (blk m c (yOf c))) $$ [HO Hf0 Hs0]
  · iframe
    iexact Hlev
  iintro ⟨HO, Hq0, Hx0, Hv0, Hs0⟩
  iapply (wp_ownP c (yOf c) (blk m c (yOf c))) $$ [Hs0 Ho0 Hq0]
  · iframe
  iintro Hf0
  -- what the peers send
  iapply (wp_recvP m K c h₁) $$ [HO Hc1 Har1]
  · iframe
    iexact HR
  iintro ⟨HO, Hzr1, Ho1⟩
  iapply (wp_recvP m K c h₂) $$ [HO Hc2 Har2]
  · iframe
    iexact HR
  iintro ⟨HO, Hzr2, Ho2⟩
  iapply (wp_recvP m K c h₃) $$ [HO Hc3 Har3]
  · iframe
    iexact HR
  iintro ⟨HO, Hzr3, Ho3⟩
  iapply (wp_ownWaitP c (yOf c) onlyRecv_zero (blk m c (yOf c))) $$ [HO Hf0]
  · iframe
    iexact Hlev
  iintro ⟨HO, Hq0, Hs0, Ho0⟩
  -- the blocks have left
  iapply (wp_sentP m K c (yOf c) h₁) $$ [HO Hcs1 Has1]
  · iframe
    iexact HR
  iintro ⟨HO, Hzs1, Hs1⟩
  iapply (wp_sentP m K c (yOf c) h₂) $$ [HO Hcs2 Has2]
  · iframe
    iexact HR
  iintro ⟨HO, Hzs2, Hs2⟩
  iapply (wp_sentP m K c (yOf c) h₃ (k := fun x => .ret x)) $$ [HO Hcs3 Has3]
  · iframe
    iexact HR
  iintro ⟨HO, Hzs3, Hs3⟩
  unfold wpc; rw [wp_ret]; imodintro
  iapply Hk
  rw [peer_self]
  iframe
  iexists _; iexact Hs0

/-! ## The whole body -/

theorem cond1_iff : ∀ d : Dev nD, k0_cond1 d = 1#1 ↔ yOf d = 0 := by decide +kernel
theorem cond2_iff : ∀ d : Dev nD, k0_cond2 d = 1#1 ↔ yOf d = 1 := by decide +kernel
theorem cond3_iff : ∀ d : Dev nD, k0_cond3 d = 1#1 ↔ yOf d = 2 := by decide +kernel
theorem cond4_iff : ∀ d : Dev nD, k0_cond4 d = 1#1 ↔ yOf d = 3 := by decide +kernel

/-- A branch followed by nothing more, at the devices it names. -/
theorem wp_branch_at (K : Dev nD × Cell → ℕ) (c : Dev nD) {i j₁ j₂ j₃ : Fin 4} {a₁ a₂ a₃ b₁ b₂ b₃ : Dev nD} (hi : yOf c = i)
    (h : Others i j₁ j₂ j₃) (ha₁ : a₁ = peer c j₁) (ha₂ : a₂ = peer c j₂) (ha₃ : a₃ = peer c j₃)
    (hb₁ : b₁ = peer c j₁) (hb₂ : b₂ = peer c j₂) (hb₃ : b₃ = peer c j₃)
    {Q : PUnit → sProp 𝕄} :
    iprop(startOf m K c ∗ owing c (O₀ c)) ⊢ iprop((iprop(finishOf m c ∗ owing c 0) -∗ Q ⟨⟩)
      -∗ wpc c (branch i j₁ j₂ j₃ a₁ a₂ a₃ b₁ b₂ b₃) Q) := by
  subst hi ha₁ ha₂ ha₃ hb₁ hb₂ hb₃
  exact wp_branch m K c h

/-- One device's kernel, from what it starts with to what it ends with. -/
theorem wp_body (K : Dev nD × Cell → ℕ) (c : Dev nD) {Q : PUnit → sProp 𝕄} :
    iprop(startOf m K c ∗ owing c (O₀ c)) ⊢ iprop((iprop(finishOf m c ∗ owing c 0) -∗ Q ⟨⟩) -∗ wpc c (bodyAt0 (F := F) t0_0) Q) := by
  rw [body_eq]
  unfold steps
  simp only [Prog.lift, Prog.bind_op, Prog.bind_ret, wpc, wp_deviceId]
  have hy : yOf c = 0 ∨ yOf c = 1 ∨ yOf c = 2 ∨ yOf c = 3 := by generalize yOf c = y; revert y; decide
  rcases hy with hy | hy | hy | hy
  · rw [dif_pos ((cond1_iff c).mpr hy), dif_neg (show ¬ k0_cond2 c = 1#1 by rw [cond2_iff, hy]; decide), dif_neg (show ¬ k0_cond3 c = 1#1 by rw [cond3_iff, hy]; decide), dif_neg (show ¬ k0_cond4 c = 1#1 by rw [cond4_iff, hy]; decide), wp_bind]
    iintro HS Hk
    iapply (wp_branch_at m K c hy (by unfold Others; decide) (Fin.ext (k0_dev1_eq c)) (Fin.ext (k0_dev2_eq c)) (Fin.ext (k0_dev3_eq c)) (Fin.ext (k0_dev4_eq c)) (Fin.ext (k0_dev5_eq c)) (Fin.ext (k0_dev6_eq c))) $$ HS
    iintro HF
    rw [Prog.pure_eq_ret, wp_ret]; imodintro
    iapply Hk; iexact HF
  · rw [dif_neg (show ¬ k0_cond1 c = 1#1 by rw [cond1_iff, hy]; decide), dif_pos ((cond2_iff c).mpr hy), dif_neg (show ¬ k0_cond3 c = 1#1 by rw [cond3_iff, hy]; decide), dif_neg (show ¬ k0_cond4 c = 1#1 by rw [cond4_iff, hy]; decide), wp_bind]
    iintro HS Hk
    iapply (wp_branch_at m K c hy (by unfold Others; decide) (Fin.ext (k0_dev7_eq c)) (Fin.ext (k0_dev8_eq c)) (Fin.ext (k0_dev9_eq c)) (Fin.ext (k0_dev10_eq c)) (Fin.ext (k0_dev11_eq c)) (Fin.ext (k0_dev12_eq c))) $$ HS
    iintro HF
    rw [Prog.pure_eq_ret, wp_ret]; imodintro
    iapply Hk; iexact HF
  · rw [dif_neg (show ¬ k0_cond1 c = 1#1 by rw [cond1_iff, hy]; decide), dif_neg (show ¬ k0_cond2 c = 1#1 by rw [cond2_iff, hy]; decide), dif_pos ((cond3_iff c).mpr hy), dif_neg (show ¬ k0_cond4 c = 1#1 by rw [cond4_iff, hy]; decide), wp_bind]
    iintro HS Hk
    iapply (wp_branch_at m K c hy (by unfold Others; decide) (Fin.ext (k0_dev13_eq c)) (Fin.ext (k0_dev14_eq c)) (Fin.ext (k0_dev15_eq c)) (Fin.ext (k0_dev16_eq c)) (Fin.ext (k0_dev17_eq c)) (Fin.ext (k0_dev18_eq c))) $$ HS
    iintro HF
    rw [Prog.pure_eq_ret, wp_ret]; imodintro
    iapply Hk; iexact HF
  · rw [dif_neg (show ¬ k0_cond1 c = 1#1 by rw [cond1_iff, hy]; decide), dif_neg (show ¬ k0_cond2 c = 1#1 by rw [cond2_iff, hy]; decide), dif_neg (show ¬ k0_cond3 c = 1#1 by rw [cond3_iff, hy]; decide), dif_pos ((cond4_iff c).mpr hy)]
    iintro HS Hk
    iapply (wp_branch_at m K c hy (by unfold Others; decide) (Fin.ext (k0_dev19_eq c)) (Fin.ext (k0_dev20_eq c)) (Fin.ext (k0_dev21_eq c)) (Fin.ext (k0_dev22_eq c)) (Fin.ext (k0_dev23_eq c)) (Fin.ext (k0_dev24_eq c))) $$ HS
    iintro HF
    iapply Hk; iexact HF

end Cert.AllToAll

end
-- ==== Proof.Blocks.lean ====
/-
# Whole buffers and their blocks

The argument is its four blocks of columns, the result its four blocks of rows, a scratch buffer its four slots.  The
contents of the result at the end, as one array.
-/
module

public import proofs.«01_k».proof.Proof.Body

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The rectangles cut their buffers -/

theorem disjX : ∀ j k : Fin 4, j ≠ k → Disjoint (rX j).set (rX k).set :=
  Ring.lead_disjoint (s := S256x1024) 1 256 offX S256x256.size inbX (fun _ => rfl) rfl
theorem coverX : (Finset.univ : Finset (Fin 4)).biUnion (fun j => (rX j).set) = Finset.univ :=
  Ring.lead_cover (s := S256x1024) 1 256 offX S256x256.size inbX (fun _ => rfl) (by decide) rfl (by decide) rfl
theorem disjO : ∀ j k : Fin 4, j ≠ k → Disjoint (rO j).set (rO k).set :=
  Ring.lead_disjoint (s := S1024x256) 0 256 offO S256x256.size inbO (fun _ => rfl) rfl
theorem coverO : (Finset.univ : Finset (Fin 4)).biUnion (fun j => (rO j).set) = Finset.univ :=
  Ring.lead_cover (s := S1024x256) 0 256 offO S256x256.size inbO (fun _ => rfl) (by decide) rfl (by decide) rfl
theorem disjV : ∀ j k : Fin 4, j ≠ k → Disjoint (rV j).set (rV k).set :=
  Ring.lead_disjoint (s := S4x256x256) 0 1 offV S1x256x256.size inbV (by decide) rfl
theorem coverV : (Finset.univ : Finset (Fin 4)).biUnion (fun j => (rV j).set) = Finset.univ :=
  Ring.lead_cover (s := S4x256x256) 0 1 offV S1x256x256.size inbV (by decide) (by decide) rfl (by decide) rfl

/-! ## The argument and the result -/

theorem arg_blocks (c : Dev nD) :
    (((c : Thread nD τ).loc main_arg0) ↦{fullShare} m ((c : Thread nD τ).loc main_arg0) : sProp 𝕄)
      = bigSep Finset.univ fun j => owns (c : Thread nD τ) (xB j) fullShare (blk m c j) := by
  have h := pointsTo_rects (Ix := Unit) (Name := ℕ) (U := UU) (Lvl := ℕ) (Val := Elt F) (c : Thread nD τ) xM fullShare rX (fun _ _ => rfl) disjX coverX
    (m ((c : Thread nD τ).loc main_arg0))
  rw [show xM.view.set = Finset.univ from View.set_whole _] at h
  exact h

theorem result_blocks (c : Dev nD) (f : Buf (Elt F) ((c : Thread nD τ).loc main_v1)) :
    (((c : Thread nD τ).loc main_v1) ↦{fullShare} f : sProp 𝕄)
      = bigSep Finset.univ fun j => owns (c : Thread nD τ) (oB j) fullShare ((oB j).view.read (Elt F) f) := by
  have h := pointsTo_rects (Ix := Unit) (Name := ℕ) (U := UU) (Lvl := ℕ) (Val := Elt F) (c : Thread nD τ) oM fullShare rO (fun _ _ => rfl) disjO coverO f
  rw [show oM.view.set = Finset.univ from View.set_whole _] at h
  exact h

/-! ## What the result holds at the end -/

set_option backward.proofsInPublic true in
/-- Where in the argument of the peer at `i 0 / 256` the entry `i` of the result comes from, on a device of second
    coordinate `y`. -/
def source (y : Fin 4) (i : S1024x256.Idx) : S256x1024.Idx := fun
  | ⟨0, _⟩ => ⟨(i 0).val % 256, Nat.mod_lt _ (by decide)⟩
  | ⟨1, _⟩ => ⟨256 * y.val + (i 1).val, by have h : (i 1).val < 256 := (i 1).isLt; have := y.isLt; show _ < 1024; omega⟩

set_option backward.proofsInPublic true in
/-- The block of rows an entry of the result lies in. -/
def rowBlock (i : S1024x256.Idx) : Fin 4 := ⟨(i 0).val / 256, by have h : (i 0).val < 1024 := (i 0).isLt; omega⟩

/-- The argument of a device, as an array. -/
def argOf (d : Dev nD) : S256x1024.Idx → Elt F .bf16 := m ((d : Thread nD τ).loc main_arg0)

/-- The result of a device: in row block `k` the peer at `k`'s columns numbered by the device's own coordinate. -/
def outAt (c : Dev nD) : S1024x256.Idx → Elt F .bf16 := fun i => argOf m (peer c (rowBlock i)) (source (yOf c) i)

def outFinal (c : Dev nD) : Buf (Elt F) ((c : Thread nD τ).loc main_v1) := outAt m c

theorem read_outFinal (c : Dev nD) (k : Fin 4) : (oB k).view.read (Elt F) (outFinal m c) = blk m (peer c k) (yOf c) := by
  funext x
  show argOf m (peer c (rowBlock ((rO k).emb x))) (source (yOf c) ((rO k).emb x)) = argOf m (peer c k) ((rX (yOf c)).emb x)
  have h0 : (x 0).val < 256 := (x 0).isLt
  have hv : (((rO k).emb x) 0).val = 256 * k.val + (x 0).val := by simp
  have hw : (((rO k).emb x) 1).val = (x 1).val := by simp
  have hr : rowBlock ((rO k).emb x) = k := Fin.ext (by show (((rO k).emb x) 0).val / 256 = _; rw [hv]; omega)
  have hs : source (yOf c) ((rO k).emb x) = (rX (yOf c)).emb x := by
    funext a
    match a with
    | ⟨0, _⟩ =>
      apply Fin.ext
      show (((rO k).emb x) 0).val % 256 = (((rX (yOf c)).emb x) 0).val
      rw [hv, show (((rX (yOf c)).emb x) 0).val = (x 0).val by simp]; omega
    | ⟨1, _⟩ =>
      apply Fin.ext
      show 256 * (yOf c).val + (((rO k).emb x) 1).val = (((rX (yOf c)).emb x) 1).val
      rw [hw, show (((rX (yOf c)).emb x) 1).val = 256 * (yOf c).val + (x 1).val by simp]
  rw [hr, hs]

/-! ## A device's argument and result, given and traded -/

theorem given_intro (c : Dev nD) :
    iprop((((c : Thread nD τ).loc main_arg0) ↦{fullShare} m ((c : Thread nD τ).loc main_arg0))
        ∗ (((c : Thread nD τ).loc main_v1) ↦{fullShare} m ((c : Thread nD τ).loc main_v1)))
      ⊢ (bigSep Finset.univ (given m c) : sProp 𝕄) := by
  have hj (j : Fin 4) : owns (c : Thread nD τ) (oB j) fullShare ((oB j).view.read (Elt F) (m ((c : Thread nD τ).loc main_v1)))
      ⊢ (someBlock c (oB j) : sProp 𝕄) := by iintro H; iexists _; iexact H
  have h : (bigSep Finset.univ fun j => owns (c : Thread nD τ) (oB j) fullShare ((oB j).view.read (Elt F) (m ((c : Thread nD τ).loc main_v1))))
      ⊢ (bigSep Finset.univ fun j => someBlock c (oB j) : sProp 𝕄) := bigSep_mono fun j _ => hj j
  unfold given
  rw [bigSep_sep', ← arg_blocks, result_blocks]
  iintro ⟨Ha, Hr⟩
  isplitl [Ha]; · iexact Ha
  iapply h
  iexact Hr

theorem traded_elim (c : Dev nD) :
    (bigSep Finset.univ (traded m c) : sProp 𝕄)
      ⊢ iprop((((c : Thread nD τ).loc main_arg0) ↦{fullShare} m ((c : Thread nD τ).loc main_arg0))
        ∗ (((c : Thread nD τ).loc main_v1) ↦{fullShare} outFinal m c)) := by
  have h : (((c : Thread nD τ).loc main_v1) ↦{fullShare} outFinal m c : sProp 𝕄)
      = bigSep Finset.univ fun j => owns (c : Thread nD τ) (oB j) fullShare (blk m (peer c j) (yOf c)) := by
    rw [result_blocks]; exact bigSep_congr fun j _ => by rw [read_outFinal]
  unfold traded
  rw [bigSep_sep', ← arg_blocks, h]

/-! ## The scratch buffers -/

/-- A slot held at some contents is its elements held at some contents. -/
theorem slot_eq (c : Dev nD) (M : Memref sig .tc .vmem S4x256x256 .bf16) (j : Fin 4) :
    (someBlock c ((M.slice (rV j) (fun _ => rfl)).squeeze S256x256 squeezes_S1x256x256_S256x256) : sProp 𝕄)
      = iprop(∃ f : Buf (Elt F) (M.view.loc (c : Thread nD τ)), M.view.loc (c : Thread nD τ) ↦[(M.view.slice (rV j)).set]{fullShare} f) := by
  have hs : ((M.slice (rV j) (fun _ => rfl)).squeeze S256x256 squeezes_S1x256x256_S256x256).view.set = (M.view.slice (rV j)).set :=
    View.set_reshape (M.view.slice (rV j)) (s' := S256x256) squeezes_S1x256x256_S256x256.numel_eq
  have h₁ : (someBlock c ((M.slice (rV j) (fun _ => rfl)).squeeze S256x256 squeezes_S1x256x256_S256x256) : sProp 𝕄)
      ⊢ iprop(∃ f : Buf (Elt F) (M.view.loc (c : Thread nD τ)), M.view.loc (c : Thread nD τ) ↦[(M.view.slice (rV j)).set]{fullShare} f) := by
    unfold someBlock owns
    rw [hs]
    iintro ⟨%w, %f, %hf, H⟩
    iexists f; iexact H
  have h₂ : iprop(∃ f : Buf (Elt F) (M.view.loc (c : Thread nD τ)), M.view.loc (c : Thread nD τ) ↦[(M.view.slice (rV j)).set]{fullShare} f)
      ⊢ (someBlock c ((M.slice (rV j) (fun _ => rfl)).squeeze S256x256 squeezes_S1x256x256_S256x256) : sProp 𝕄) := by
    rw [← hs]
    iintro ⟨%f, H⟩
    iexists _
    iapply (owns_intro (c : Thread nD τ) ((M.slice (rV j) (fun _ => rfl)).squeeze S256x256 squeezes_S1x256x256_S256x256) fullShare f)
    iexact H
  exact BI.equiv_iff.mp ⟨h₁, h₂⟩

/-! ### A buffer and its slots -/

section Slots
variable (c : Dev nD) (M : Memref sig .tc .vmem S4x256x256 .bf16)

theorem slots_disjoint (j k : Fin 4) (h : j ≠ k) : Disjoint (M.view.slice (rV j)).set (M.view.slice (rV k)).set := by
  rw [View.set_slice, View.set_slice]; exact (Finset.disjoint_map _).mpr (disjV j k h)

theorem slots_cover : (Finset.univ : Finset (Fin 4)).biUnion (fun j => (M.view.slice (rV j)).set) = M.view.set := by
  ext i
  rw [Finset.mem_biUnion]
  constructor
  · rintro ⟨j, -, hi⟩; exact View.set_slice_subset _ _ hi
  · intro hi
    obtain ⟨x, -, rfl⟩ := Finset.mem_map.mp hi
    obtain ⟨j, hj, hx⟩ := Finset.mem_biUnion.mp (coverV.symm ▸ Finset.mem_univ x)
    exact ⟨j, hj, by rw [View.set_slice]; exact Finset.mem_map_of_mem _ hx⟩

/-- A scratch buffer at some contents is its slots at some contents each, -/
theorem slots_split :
    (iprop(∃ f : Buf (Elt F) (M.view.loc (c : Thread nD τ)), M.view.loc (c : Thread nD τ) ↦[M.view.set]{fullShare} f) : sProp 𝕄)
      ⊢ bigSep Finset.univ fun j => someBlock c ((M.slice (rV j) (fun _ => rfl)).squeeze S256x256 squeezes_S1x256x256_S256x256) := by
  have hj (f : Buf (Elt F) (M.view.loc (c : Thread nD τ))) (j : Fin 4) :
      (M.view.loc (c : Thread nD τ) ↦[(M.view.slice (rV j)).set]{fullShare} f)
        ⊢ (someBlock c ((M.slice (rV j) (fun _ => rfl)).squeeze S256x256 squeezes_S1x256x256_S256x256) : sProp 𝕄) := by
    rw [slot_eq]; iintro H; iexists f; iexact H
  have h (f : Buf (Elt F) (M.view.loc (c : Thread nD τ))) :
      (bigSep Finset.univ fun j => M.view.loc (c : Thread nD τ) ↦[(M.view.slice (rV j)).set]{fullShare} f)
        ⊢ (bigSep Finset.univ fun j => someBlock c ((M.slice (rV j) (fun _ => rfl)).squeeze S256x256 squeezes_S1x256x256_S256x256) : sProp 𝕄) :=
    bigSep_mono fun j _ => hj f j
  iintro ⟨%f, H⟩
  iapply (h f)
  rw [← Ring.pointsTo_sub_blocks (fun j => (M.view.slice (rV j)).set) (slots_disjoint M) M.view.set (slots_cover M) f]
  iexact H

/-- and back. -/
theorem slots_join :
    (bigSep Finset.univ fun j => someBlock c ((M.slice (rV j) (fun _ => rfl)).squeeze S256x256 squeezes_S1x256x256_S256x256) : sProp 𝕄)
      ⊢ iprop(∃ f : Buf (Elt F) (M.view.loc (c : Thread nD τ)), M.view.loc (c : Thread nD τ) ↦[M.view.set]{fullShare} f) := by
  simp only [slot_eq]
  exact Ring.pointsTo_sub_blocks_join_exists (ℓ := M.view.loc (c : Thread nD τ)) (fun j => (M.view.slice (rV j)).set) (slots_disjoint M)
    M.view.set (slots_cover M) (fun _ => Classical.choice (Elt.nonempty F _))

end Slots

theorem scratch_intro (c : Dev nD) :
    iprop((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f))
      ⊢ (bigSep Finset.univ (scratch c) : sProp 𝕄) := by
  have h0 := slots_split (F := F) c vM
  have h1 := slots_split (F := F) c sM
  rw [show vM.view.set = Finset.univ from View.set_whole _] at h0
  rw [show sM.view.set = Finset.univ from View.set_whole _] at h1
  unfold scratch
  rw [bigSep_sep']
  iintro ⟨H0, H1⟩
  isplitl [H0]
  · iapply h0; iexact H0
  · iapply h1; iexact H1

theorem scratch_elim (c : Dev nD) :
    (bigSep Finset.univ (scratch c) : sProp 𝕄)
      ⊢ iprop((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)) := by
  have h0 := slots_join (F := F) c vM
  have h1 := slots_join (F := F) c sM
  rw [show vM.view.set = Finset.univ from View.set_whole _] at h0
  rw [show sM.view.set = Finset.univ from View.set_whole _] at h1
  unfold scratch
  rw [bigSep_sep']
  iintro ⟨H0, H1⟩
  isplitl [H0]
  · iapply h0; iexact H0
  · iapply h1; iexact H1

end Cert.AllToAll

end
-- ==== Proof.Ghost.lean ====
/-
# The exchange's state at the launch

The cells and tokens minted, the invariants allocated, the tokens dealt to the devices that pay the duties, and the credit a
device has from what its peers owe it.
-/
module

public import proofs.«01_k».proof.Proof.Blocks

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Swapping the two ends of a pair of peers -/

/-- A device and a coordinate; the peer there, and the device's own coordinate. -/
def swap : Dev nD × Fin 4 ≃ Dev nD × Fin 4 where
  toFun x := (peer x.1 x.2, yOf x.1)
  invFun x := (peer x.1 x.2, yOf x.1)
  left_inv x := by
    show (peer (peer x.1 x.2) (yOf x.1), yOf (peer x.1 x.2)) = x
    rw [peer_peer, peer_self, yOf_peer]
  right_inv x := by
    show (peer (peer x.1 x.2) (yOf x.1), yOf (peer x.1 x.2)) = x
    rw [peer_peer, peer_self, yOf_peer]

theorem bigSep_swap (A : Dev nD → Fin 4 → sProp 𝕄) :
    (bigSep Finset.univ fun c : Dev nD => bigSep Finset.univ fun d : Fin 4 => A c d)
      = bigSep Finset.univ fun c : Dev nD => bigSep Finset.univ fun j : Fin 4 => A (peer c j) (yOf c) := by
  rw [← bigSep_univ_prod (fun x : Dev nD × Fin 4 => A x.1 x.2), bigSep_univ_equiv swap, bigSep_univ_prod]; rfl

theorem sum_swap {M : Type} [AddCommMonoid M] (f : Dev nD → Fin 4 → M) :
    ∑ c : Dev nD, ∑ j ∈ Finset.univ.erase (yOf c), f (peer c j) (yOf c) = ∑ c : Dev nD, ∑ j ∈ Finset.univ.erase (yOf c), f c j := by
  have h (g : Dev nD → Fin 4 → M) : ∑ c : Dev nD, ∑ j ∈ Finset.univ.erase (yOf c), g c j
      = ∑ x : Dev nD × Fin 4, if x.2 ≠ yOf x.1 then g x.1 x.2 else 0 := by
    rw [Fintype.sum_prod_type]
    refine Finset.sum_congr rfl fun c _ => ?_
    rw [← Finset.sum_filter]
    exact Finset.sum_congr (by ext j; simp) fun _ _ => rfl
  rw [h, h, ← Equiv.sum_comp swap (fun x : Dev nD × Fin 4 => if x.2 ≠ yOf x.1 then f x.1 x.2 else 0)]
  refine Finset.sum_congr rfl fun x _ => ?_
  show (if x.2 ≠ yOf x.1 then f (peer x.1 x.2) (yOf x.1) else 0)
    = if yOf x.1 ≠ yOf (peer x.1 x.2) then f (peer x.1 x.2) (yOf x.1) else 0
  rw [yOf_peer]
  exact if_congr ne_comm rfl rfl

/-! ## A device's cells -/

def cellEquiv : Unit ⊕ (Fin 4 ⊕ Fin 4) ≃ Cell where
  toFun
    | .inl _ => none
    | .inr (.inl j) => some (true, j)
    | .inr (.inr j) => some (false, j)
  invFun
    | none => .inl ()
    | some (true, j) => .inr (.inl j)
    | some (false, j) => .inr (.inr j)
  left_inv := by rintro (_ | _ | _) <;> rfl
  right_inv := by rintro (_ | ⟨_ | _, _⟩) <;> rfl

theorem bigSep_cell (Φ : Cell → sProp 𝕄) :
    bigSep Finset.univ Φ = iprop(Φ none ∗ (bigSep Finset.univ fun j : Fin 4 => Φ (some (true, j))) ∗ bigSep Finset.univ fun j : Fin 4 => Φ (some (false, j))) := by
  rw [bigSep_univ_equiv cellEquiv, bigSep_univ_sum, bigSep_univ_sum, bigSep_univ_of_subsingleton ()]; rfl

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem csem_injective : Function.Injective csem := by
  rintro (_ | ⟨_ | _, j⟩) (_ | ⟨_ | _, k⟩) h
  · rfl
  · exact absurd h.symm (dma_ne_bar _)
  · exact absurd h.symm (dma_ne_bar _)
  · exact absurd h (dma_ne_bar _)
  · rw [send_loc_inj h]
  · exact absurd h send_loc_ne_recv
  · exact absurd h (dma_ne_bar _)
  · exact absurd h.symm send_loc_ne_recv
  · rw [recv_loc_inj h]

theorem kcell_injective : Function.Injective (kcell : Dev nD × Cell → GSem nD τ sig) := by
  rintro ⟨c, k⟩ ⟨c', k'⟩ h
  exact Prod.ext (congrArg (fun g : GSem nD τ sig => g.1.1) h) (csem_injective (congrArg Prod.snd h))

def cells : Finset (GSem nD τ sig) := Finset.univ.map ⟨kcell, kcell_injective⟩

/-! ## The tokens -/

/-- The cell of a device whose token is meant: its barrier, or its receive or send semaphore of the duty's number. -/
def tokCell (b : Fin 3) (d : Fin 4) : Cell := match b with
  | 0 => none
  | 1 => some (true, d)
  | 2 => some (false, d)

theorem tokCell_injective {b b' : Fin 3} {d : Fin 4} (h : tokCell b d = tokCell b' d) : b = b' := by
  revert b b' d; decide

abbrev tokOf (x : Dev nD × Fin 3 × Fin 4) : GSem nD τ sig × ℕ × Fin 4 := (kcell (x.1, tokCell x.2.1 x.2.2), 0, x.2.2)

theorem tokOf_injective : Function.Injective tokOf := by
  rintro ⟨c, b, d⟩ ⟨c', b', d'⟩ h
  obtain rfl : d = d' := congrArg (fun x : GSem nD τ sig × ℕ × Fin 4 => x.2.2) h
  have hk := kcell_injective (congrArg Prod.fst h)
  obtain rfl : c = c' := congrArg Prod.fst hk
  obtain rfl : b = b' := tokCell_injective (congrArg Prod.snd hk)
  rfl

def tokens : Finset (GSem nD τ sig × ℕ × Fin 4) := Finset.univ.map ⟨tokOf, tokOf_injective⟩

/-- The launch's element: the pipeline's rounds, the exchange's, and no counter yet. -/
def u₀ : UU :=
  (initOf (Pipeline.cells cfgs cellOf_inj) (Pipeline.launchToks cfgs cellOf_inj), (initOf cells tokens, 1))

/-- The tokens of the duties paid AT device `c`; -/
def toks (c : Dev nD) : sProp 𝕄 :=
  iprop((bigSep Finset.univ fun d : Fin 4 => dutyTok ER (barCell c) 0 d)
    ∗ (bigSep Finset.univ fun d : Fin 4 => dutyTok ER (recvCell c d) 0 d)
    ∗ bigSep Finset.univ fun d : Fin 4 => dutyTok ER (sendCell c d) 0 d)
/-- of those paid BY it, towards its peer at `j`. -/
def payToks (c : Dev nD) (j : Fin 4) : sProp 𝕄 :=
  iprop(dutyTok ER (barCell (peer c j)) 0 (yOf c) ∗ dutyTok ER (sendCell c j) 0 j ∗ dutyTok ER (recvCell (peer c j) (yOf c)) 0 (yOf c))

theorem toks_dealt : (bigSep Finset.univ fun c : Dev nD => (toks c : sProp 𝕄))
    ⊢ bigSep Finset.univ fun c : Dev nD => bigSep Finset.univ fun j => payToks c j := by
  unfold toks payToks
  simp only [bigSep_sep']
  rw [bigSep_swap (fun c d => dutyTok ER (barCell c) 0 d), bigSep_swap (fun c d => dutyTok ER (recvCell c d) 0 d)]
  iintro ⟨H1, H2, H3⟩
  isplitl [H1]; · iexact H1
  isplitl [H3]; · iexact H3
  iexact H2

/-! ## What the launch deals, and what is made of it -/

/-- What a device is dealt; -/
def G (c : Dev nD) : sProp 𝕄 :=
  iprop((bigSep Finset.univ fun k : Cell => roundState ER (sched m) (kcell (c, k)) 0)
    ∗ (bigSep Finset.univ fun k : Cell => iprop(atPos ER (kcell (c, k)) 0 ∅ 0 ∗ reached ER (kcell (c, k)) 0)) ∗ toks c)

/-- what of it stays with the device, -/
def kept (c : Dev nD) : sProp 𝕄 :=
  iprop(atPos ER (barCell c) 0 ∅ 0 ∗ bigSep Finset.univ (fresh c) ∗ bigSep Finset.univ (payToks c))
/-- beside the records of all cells. -/
def G' (c : Dev nD) : sProp 𝕄 := iprop(∃ K, records m K ∗ kept c)

theorem fund_cells : BI.own (ER (initOf cells tokens)) ⊢ (|==> bigSep Finset.univ (G m) : sProp 𝕄) := by
  have hX (Φ : GSem nD τ sig → sProp 𝕄) :
      bigSep cells Φ = bigSep Finset.univ fun c : Dev nD => bigSep Finset.univ fun k : Cell => Φ (kcell (c, k)) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    exact bigSep_congr fun c _ => by unfold toks; rw [bigSep_univ_prod, bigSep_fin3]; rfl
  iintro HX
  imod (Rounds.fund ER (sched m) cells tokens) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores: the copies', the sends', the receives'. -/
def osem (x : Fin 3 × Fin 4) : SemLoc sig := match x.1 with
  | 0 => .dma (copyS x.2)
  | 1 => .dma (sendS x.2)
  | 2 => .dma (recvS x.2)

theorem ownSems0_eq (c : Dev nD) :
    (Pipeline.ownSems0 (Ix := Unit) (Name := ℕ) (U := UU) (Lvl := ℕ) (Val := Elt F) (τ := τ) osem c : sProp 𝕄) = bigSep Finset.univ (quiet c) := by
  unfold Pipeline.ownSems0 quiet
  rw [bigSep_univ_prod, bigSep_fin3, bigSep_sep', bigSep_sep']; rfl

/-- The barrier semaphore is the one that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem cells_zero (c : Dev nD) :
    iprop(Pipeline.ownSems0 (Ix := Unit) (Name := ℕ) (U := UU) (Lvl := ℕ) (Val := Elt F) (τ := τ) osem c ∗ unscopedSems0 c)
      ⊢ iprop((bigSep Finset.univ fun k : Cell => semVal (kcell (c, k)) 0) ∗ bigSep Finset.univ fun j => semVal (copyCell c j) 0 : sProp 𝕄) := by
  rw [ownSems0_eq, unscopedSems0_eq, bigSep_cell]
  unfold quiet
  rw [bigSep_sep', bigSep_sep']
  iintro ⟨⟨HC, HS, HR⟩, HB⟩
  isplitr [HC]
  · isplitl [HB]; · iexact HB
    isplitl [HR]; · iexact HR
    iexact HS
  iexact HC

/-- What a device holds once its cells' invariants stand. -/
def stood (c : Dev nD) : sProp 𝕄 :=
  iprop((bigSep Finset.univ fun k : Cell => iprop(∃ κ : ℕ, cellInv ER (sched m) κ (kcell (c, k))))
    ∗ (bigSep Finset.univ fun k : Cell => iprop(atPos ER (kcell (c, k)) 0 ∅ 0 ∗ reached ER (kcell (c, k)) 0))
    ∗ toks c ∗ bigSep Finset.univ fun j => semVal (copyCell c j) 0)

theorem cells_alloc (c : Dev nD) :
    iprop((bigSep Finset.univ fun k : Cell => semVal (kcell (c, k)) 0) ∗ bigSep Finset.univ fun k : Cell => roundState ER (sched m) (kcell (c, k)) 0)
      ⊢ (|={Set.univ}=> bigSep Finset.univ fun k : Cell => iprop(∃ κ : ℕ, cellInv ER (sched m) κ (kcell (c, k))) : sProp 𝕄) := by
  rw [← bigSep_sep']
  exact (bigSep_mono fun k _ => (Rounds.body_intro ER (sched m) (kcell (c, k))).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> (stood m c : sProp 𝕄) := by
  unfold G stood
  iintro ⟨Hos, Hus, Hst, Hat, Htok⟩
  ihave Hv := (cells_zero (F := F) c) $$ [Hos Hus]
  · isplitl [Hos] <;> iassumption
  icases Hv with ⟨Hv, HC⟩
  imod (cells_alloc m c) $$ [Hv Hst] with Hinv
  · isplitl [Hv] <;> iassumption
  imodintro
  isplitl [Hinv]; · iexact Hinv
  isplitl [Hat]; · iexact Hat
  isplitl [Htok]; · iexact Htok
  iexact HC

/-- Something that stays true goes to every part of a big conjunction. -/
theorem with_records {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem kept_eq (c : Dev nD) :
    iprop((bigSep Finset.univ fun k : Cell => atPos ER (kcell (c, k)) 0 ∅ 0) ∗ (bigSep Finset.univ fun j => payToks c j)
        ∗ bigSep Finset.univ fun j => semVal (copyCell c j) 0)
      ⊢ (kept c : sProp 𝕄) := by
  unfold kept fresh
  rw [bigSep_cell, bigSep_sep', bigSep_sep']
  iintro ⟨⟨HB, HR, HS⟩, HT, HC⟩
  isplitl [HB]; · iexact HB
  isplitr [HT]
  · isplitl [HC]; · iexact HC
    isplitl [HS]; · iexact HS
    iexact HR
  iexact HT

theorem regroup : (bigSep Finset.univ (stood m) : sProp 𝕄) ⊢ bigSep Finset.univ (G' m) := by
  have hk : (bigSep Finset.univ fun c : Dev nD => iprop((bigSep Finset.univ fun k : Cell => atPos ER (kcell (c, k)) 0 ∅ 0)
        ∗ (bigSep Finset.univ fun j => payToks c j) ∗ bigSep Finset.univ fun j => semVal (copyCell c j) 0))
      ⊢ (bigSep Finset.univ fun c : Dev nD => kept c : sProp 𝕄) := bigSep_mono fun c _ => kept_eq c
  have hG (K : Dev nD × Cell → ℕ) (c : Dev nD) : iprop(records m K ∗ kept c) ⊢ (G' m c : sProp 𝕄) := by
    unfold G'; iintro H; iexists K; iexact H
  unfold stood
  rw [bigSep_sep', bigSep_sep', bigSep_sep', ← bigSep_univ_prod (fun x : Dev nD × Cell => iprop(∃ κ : ℕ, cellInv ER (sched m) κ (kcell x))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun x : Dev nD × Cell => (reached ER (kcell x) 0 : sProp 𝕄))]
  iintro ⟨HI, ⟨Hat, #HR⟩, Htok, HC⟩
  ihave HK := (BI.bigSep_exists_pi Finset.univ (fun (x : Dev nD × Cell) (κ : ℕ) => (cellInv ER (sched m) κ (kcell x) : sProp 𝕄))) $$ HI
  icases HK with ⟨%K, #HI⟩
  ihave Htk := (toks_dealt (F := F)) $$ Htok
  iapply (with_records (R := records m K) (hG K))
  isplitr
  · unfold records; rw [bigSep_sep']
    isplitl; · iexact HI
    iexact HR
  · iapply hk
    rw [bigSep_sep', bigSep_sep']
    isplitl [Hat]; · iexact Hat
    isplitl [Htk]; · iexact Htk
    iexact HC

theorem glob : (bigSep Finset.univ fun c =>
      iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

/-- All that is owed at the launch, cell by cell. -/
theorem owed_all : ∑ d : Dev nD, O₀ d
    = ∑ d : Dev nD, ∑ j ∈ Finset.univ.erase (yOf d), (tallyAt (recvCell d j) () N + tallyAt (barCell d) () 1 : CellTallies nD τ sig Unit) := by
  unfold O₀ owedRecv owedBar
  simp only [← Finset.sum_add_distrib]
  exact sum_swap fun c j => (tallyAt (recvCell c j) () N + tallyAt (barCell c) () 1 : CellTallies nD τ sig Unit)

theorem owed_apply (g : GSem nD τ sig) : ∑ d : Dev nD, O₀ d g ()
    = ∑ d : Dev nD, ∑ j ∈ Finset.univ.erase (yOf d), ((if g = recvCell d j then N else 0) + (if g = barCell d then 1 else 0)) := by
  have h := congrArg (fun O : CellTallies nD τ sig Unit => O g ()) owed_all
  simp only [Finset.sum_apply, Finsupp.finset_sum_apply, Pi.add_apply, Finsupp.add_apply, tallyAt_apply, and_true] at h
  exact h

theorem cell_dev {a b : Dev nD} {s s' : SemLoc sig} (h : ((a : Thread nD τ), s) = ((b : Thread nD τ), s')) : a = b ∧ s = s' :=
  ⟨congrArg (fun g : GSem nD τ sig => g.1.1) h, congrArg Prod.snd h⟩

theorem owed_bar (c : Dev nD) : ∑ d : Dev nD, O₀ d (barCell c) () = 3 := by
  rw [owed_apply, Finset.sum_eq_single c]
  · rw [Finset.sum_congr rfl fun j _ => by rw [if_neg fun h => dma_ne_bar _ (cell_dev h).2.symm, if_pos rfl, Nat.zero_add],
      Finset.sum_const, Finset.card_erase_of_mem (Finset.mem_univ _), Finset.card_univ, Fintype.card_fin, smul_eq_mul]
  · intro d _ hd
    exact Finset.sum_eq_zero fun j _ => by
      rw [if_neg fun h => dma_ne_bar _ (cell_dev h).2.symm, if_neg fun h => hd (cell_dev h).1.symm, Nat.add_zero]
  · intro h; exact absurd (Finset.mem_univ c) h

theorem owed_recv (c : Dev nD) (k : Fin 4) (hk : k ≠ yOf c) : ∑ d : Dev nD, O₀ d (recvCell c k) () = N := by
  rw [owed_apply, Finset.sum_eq_single c]
  · rw [Finset.sum_eq_single k]
    · rw [if_pos rfl, if_neg fun h => dma_ne_bar _ (cell_dev h).2, Nat.add_zero]
    · intro j _ hj
      rw [if_neg fun h => hj (recv_loc_inj (cell_dev h).2).symm, if_neg fun h => dma_ne_bar _ (cell_dev h).2, Nat.add_zero]
    · intro h; exact absurd (Finset.mem_erase.mpr ⟨hk, Finset.mem_univ k⟩) h
  · intro d _ hd
    exact Finset.sum_eq_zero fun j _ => by
      rw [if_neg fun h => hd (cell_dev h).1.symm, if_neg fun h => hd (cell_dev h).1.symm, Nat.add_zero]
  · intro h; exact absurd (Finset.mem_univ c) h

theorem launch_credit (g : GSem nD τ sig) (n : ℕ) (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

def recvLoc : Fin 4 ↪ SemLoc sig := ⟨fun j => .dma (recvS j), fun _ _ h => recv_loc_inj h⟩

theorem creds (c : Dev nD) : (Pipeline.launchCred O₀ c : sProp 𝕄)
    ⊢ iprop(cred (tallyAt (barCell c) () 3) ∗ bigSep (Finset.univ.erase (yOf c)) fun j => cred (tallyAt (recvCell c j) () N)) := by
  have hsub : (Finset.univ.erase (yOf c)).map recvLoc ⊆ Finset.univ.erase (SemLoc.reg barS) := fun s hs => by
    obtain ⟨j, -, rfl⟩ := Finset.mem_map.mp hs
    exact Finset.mem_erase.mpr ⟨dma_ne_bar _, Finset.mem_univ _⟩
  have hr : (bigSep ((Finset.univ.erase (yOf c)).map recvLoc) fun s =>
        (cred (tallyOn ((c : Thread nD τ), s) (launchCredit (Pipeline.owing O₀) 0 ((c : Thread nD τ), s))) : sProp 𝕄))
      = bigSep (Finset.univ.erase (yOf c)) fun j => cred (tallyAt (recvCell c j) () N) := by
    rw [bigSep_map]
    exact bigSep_congr fun j hj => congrArg cred (launch_credit (recvCell c j) N (owed_recv c j (Finset.mem_erase.mp hj).1))
  unfold Pipeline.launchCred
  rw [bigSep_univ_at _ (SemLoc.reg barS), launch_credit (barCell c) 3 (owed_bar c), ← hr]
  exact sep_mono_right (bigSep_subset hsub)

end Cert.AllToAll

end
-- ==== Proof.Launch.lean ====
/-
# The run of the whole mesh

The state made at the launch meets what the body asks; the body's end gives the memory and the counters at the end.
-/
module

public import proofs.«01_k».proof.Proof.Ghost
public import Idealize.ShloMosaic.Lib.Pipeline.CollectiveSegs

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The pipeline's data: one point, no window -/

/-- Before the body, -/
def Φ₀ (c : Dev nD) : sProp 𝕄 := iprop(∃ K, startOf m K c)

def dats (_ : Fin 1) (c : Dev nD) : Pipeline.Dat τ (Elt F) Unit ℕ UU ℕ cfg0 c where
  A w := w.elim0
  after w _ := w.elim0
  Φ t := match t with
    | ⟨0, _⟩ => Φ₀ m c
    | ⟨_ + 1, _⟩ => finishOf m c
  q _ := fullShare
  owed t := match t with
    | ⟨0, _⟩ => O₀ c
    | ⟨_ + 1, _⟩ => 0

theorem owesAt_elim (c : Dev nD) : (dats m 0 c).owesAt () t0_0.castSucc ⊢ (owing c (O₀ c) : sProp 𝕄) := by
  unfold Pipeline.Dat.owesAt Pipeline.owesWithin owing
  rw [show (dats m 0 c).owed t0_0.castSucc = O₀ c from rfl]
  iintro ⟨%W, -, H⟩; iexists W; iexact H

theorem owesAt_intro (c : Dev nD) : (owing c 0 : sProp 𝕄) ⊢ (dats m 0 c).owesAt () t0_0.succ := by
  unfold Pipeline.Dat.owesAt Pipeline.owesWithin owing Pipeline.Dat.bound
  rw [show (dats m 0 c).owed t0_0.succ = 0 from rfl, show (dats m 0 c).recorded t0_0.succ = Set.univ from rfl]
  iintro ⟨%W, H⟩; iexists W
  isplitr
  · ipureintro; exact fun _ _ => Or.inl trivial
  · iexact H

/-- No window, nothing staged. -/
theorem no_window (Φ : Fin 0 → sProp 𝕄) : bigSep Finset.univ Φ = iprop(emp) := by
  rw [Finset.univ_eq_empty, bigSep_empty]; rfl

/-- What the body leaves. -/
def bodyPost (c : Dev nD) : sProp 𝕄 := iprop(finishOf m c ∗ (dats m 0 c).owesAt () t0_0.succ ∗ emp)

theorem body_sound (c : Dev nD) :
    iprop(Φ₀ m c ∗ (dats m 0 c).owesAt () t0_0.castSucc ∗ emp) ⊢ wpc c (bodyAt0 (F := F) t0_0) fun _ => bodyPost m c := by
  unfold Φ₀ bodyPost
  iintro ⟨⟨%K, Hs⟩, Ho, -⟩
  ihave Ho := (owesAt_elim m c) $$ Ho
  iapply (wp_body m K c (Q := fun _ => bodyPost m c)) $$ [Hs Ho]
  · isplitl [Hs] <;> iassumption
  unfold bodyPost
  iintro ⟨Hf, Ho⟩
  isplitl [Hf]; · iexact Hf
  isplitl [Ho]
  · iapply (owesAt_intro m c); iexact Ho
  · iempintro

set_option maxRecDepth 4000 in
/-- The library's body obligation on device `c`. -/
theorem body_obligation (c : Dev nD) : Pipeline.BodyObligation (dats (F := F) m 0 c) (defs₀ (F := F)) 𝒱₀ () Set.univ := fun t => by
  rw [fin_N0 t]
  rw [no_window, no_window]
  exact body_sound m c

/-! ## The launch -/

theorem ownSemFacts : Pipeline.OwnSemFacts cfg0.spec osem := by decide

variable (ρ : Dev nD → PrngReg)

/-- What a device's body starts from but for its scratch. -/
def ready (c : Dev nD) : sProp 𝕄 :=
  iprop(∃ K, records m K ∗ levAts L lv ∗ atPos ER (barCell c) 0 ∅ 0 ∗ cred (tallyAt (barCell c) () 3)
    ∗ bigSep Finset.univ (given m c) ∗ bigSep Finset.univ (fresh c) ∗ bigSep (Finset.univ.erase (yOf c)) (duty c))

theorem duty_intro (c : Dev nD) :
    iprop((bigSep Finset.univ fun j => payToks c j) ∗ bigSep (Finset.univ.erase (yOf c)) fun j => cred (tallyAt (recvCell c j) () N))
      ⊢ (bigSep (Finset.univ.erase (yOf c)) (duty c) : sProp 𝕄) := by
  have hj (j : Fin 4) : iprop(payToks c j ∗ cred (tallyAt (recvCell c j) () N)) ⊢ (duty c j : sProp 𝕄) := by
    unfold payToks duty
    iintro ⟨⟨H1, H2, H3⟩, H4⟩
    isplitl [H1]; · iexact H1
    isplitl [H2]; · iexact H2
    isplitl [H3]; · iexact H3
    iexact H4
  refine (sep_mono_left (bigSep_subset (Finset.erase_subset (yOf c) Finset.univ))).trans ?_
  rw [← bigSep_sep']
  exact bigSep_mono fun j _ => hj j

theorem ready_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(ready m c ∗ emp) := by
  rw [Pipeline.unscopedRestP_none, unscopedRest0_eq]
  unfold G' kept ready
  iintro ⟨Hb, Hlev, Hcr, -, ⟨%K, HK, Hat, Hf, Hp⟩⟩
  ihave Hc := (creds (F := F) c) $$ Hcr
  icases Hc with ⟨H1, HN⟩
  imodintro
  isplitl
  · iexists K
    isplitl [HK]; · iexact HK
    isplitl [Hlev]; · iexact Hlev
    isplitl [Hat]; · iexact Hat
    isplitl [H1]; · iexact H1
    isplitl [Hb]; · iapply (given_intro m c); iexact Hb
    isplitl [Hf]; · iexact Hf
    iapply (duty_intro (F := F) c)
    isplitl [Hp] <;> iassumption
  · iempintro

theorem start_intro (c : Dev nD) :
    iprop(ready m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ ready startOf
  iintro ⟨⟨%K, HK, Hlev, Hat, H1, Hg, Hf, Hd⟩, -, Hr⟩
  iexists K
  isplitl [HK]; · iexact HK
  isplitl [Hlev]; · iexact Hlev
  isplitl [Hat]; · iexact Hat
  isplitl [H1]; · iexact H1
  isplitl [Hg]; · iexact Hg
  isplitl [Hr]; · iapply (scratch_intro (F := F) c); iexact Hr
  isplitl [Hf]; · iexact Hf
  iexact Hd

/-- What is read off a device at the end. -/
def done (c : Dev nD) : sProp 𝕄 :=
  iprop(unscopedSems0 c ∗ (((c : Thread nD τ).loc main_arg0) ↦{fullShare} m ((c : Thread nD τ).loc main_arg0))
    ∗ (((c : Thread nD τ).loc main_v1) ↦{fullShare} outFinal m c))

theorem finish_elim (c : Dev nD) :
    (dats m 0 c).Φ (Fin.last cfg0.N) ⊢ iprop(done m c ∗ Pipeline.ownSems0 osem c ∗ Pipeline.scopedRest cfg0.spec c) := by
  rw [show (dats m 0 c).Φ (Fin.last cfg0.N) = finishOf m c from rfl, scopedRest0_eq, ownSems0_eq]
  unfold finishOf done
  rw [unscopedSems0_eq]
  iintro ⟨HB, Ht, Hs, Hq⟩
  isplitl [HB Ht]
  · isplitl [HB]; · iexact HB
    iapply (traded_elim m c); iexact Ht
  isplitl [Hq]; · iexact Hq
  iapply (scratch_elim (F := F) c); iexact Hs

theorem waits (c : Dev nD) : (levAts L lv : sProp 𝕄) ⊢ Pipeline.cellsWaits cfgs (dats m) () 0 c :=
  Pipeline.cellsWaits_intro cfgs (dats m) () 0 c fun w => w.elim0

/-- A device's state at the end. -/
def Ends (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_v1) = outFinal m c

set_option maxRecDepth 8000 in
/-- From any memory with zero counters, for any float values: every weakly fair execution of @main on the 32 devices
    terminates, and at its end each device's `x` is as it was, its result holds the blocks sent to it, and every
    semaphore counter is zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_v1) = outFinal m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      have hX := fund_cells m
      unfold ER at hX
      iintro Hu
      ihave H := (ownU_pair _ _) $$ Hu
      icases H with ⟨HP, HX⟩
      ihave HX := (own_pair_emb _ _ _) $$ HX
      icases HX with ⟨HX, -⟩
      imod hX $$ HX with HG
      imodintro
      isplitl [HP] <;> iassumption)
    (hglob := glob m)
    (hA := fun _ w => w.elim0) (hpf := fun _ k => k.elim0)
    (X := ready m) (Y := done m) (Z := fun _ => iprop(emp))
    (hX := ready_intro m ρ) (hin := start_intro m) (hout := finish_elim m)
    (QY := Ends m)
    (hY := fun c s' => by
      unfold done Ends
      iintro ⟨⟨Hu, Hx, Ho⟩, -, HSI⟩
      icombine HSI Hx gives %hx
      icombine HSI Ho gives %ho
      imod (Pipeline.unscopedSems0_read (X := unscopedSems0 c) (c := c) fupd_intro s') $$ [Hu HSI] with ⟨%hs, HSI⟩
      · isplitl [Hu] <;> iassumption
      imodintro
      isplitr
      · ipureintro
        exact ⟨hs, Buf.eq_of_forall_mem_univ hx, Buf.eq_of_forall_mem_univ ho⟩
      · iexact HSI)
    (hQ := fun _ h hs => ⟨fun c => (h c).2.2.2, sem_eq_zero hs fun c => (h c).2.2.1⟩)

end Cert.AllToAll

end
-- ==== Proof.Value.lean ====
/-
# The result, and the claims

A device's result is its block of columns of the array of which every device's argument is a block of rows.  The claims
follow from the run.
-/
module

public import proofs.«01_k».proof.Defs
public import proofs.«01_k».proof.Proof.Launch
public import proofs.«01_k».proof.Proof.Gen.Kernel
public import proofs.«01_k».proof.Proof.Gen.ReferenceIdeal
public import Idealize.ShloMosaic.Lib.StableHlo.Run
public import Idealize.ShloMosaic.Lib.Quiescent

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

abbrev Whole : Shape := ⟨2, ![1024, 1024]⟩

/-! ## Which block a device has -/

/-- The argument is cut in rows by the second coordinate, -/
theorem rows_coord : ∀ c : Dev nD, ((Layout.meshBlock [2, 4, 4] ![[1], []] c) (0 : Fin 2)).val = (yOf c).val
    ∧ ((Layout.meshBlock [2, 4, 4] ![[1], []] c) (1 : Fin 2)).val = 0 := by decide
/-- the result in columns. -/
theorem cols_coord : ∀ c : Dev nD, ((Layout.meshBlock [2, 4, 4] ![[], [1]] c) (0 : Fin 2)).val = 0
    ∧ ((Layout.meshBlock [2, 4, 4] ![[], [1]] c) (1 : Fin 2)).val = (yOf c).val := by decide

theorem rows_tile : Layout.TilesN S256x1024 Whole fun b => Layout.cutSize [2, 4, 4] ((![[1], []] : Fin 2 → List Nat) b) := by decide
theorem cols_tile : Layout.TilesN S1024x256 Whole fun b => Layout.cutSize [2, 4, 4] ((![[], [1]] : Fin 2 → List Nat) b) := by decide

/-- An entry of a device's columns is the entry of the peer's rows that it is copied from. -/
theorem same_entry (c : Dev nD) (i : S1024x256.Idx) :
    rows_tile.idx (Layout.meshBlock [2, 4, 4] ![[1], []] (peer c (rowBlock i))) (source (yOf c) i)
      = cols_tile.idx (Layout.meshBlock [2, 4, 4] ![[], [1]] c) i := by
  have hr := rows_coord (peer c (rowBlock i))
  have hc := cols_coord c
  rw [yOf_peer] at hr
  funext b
  apply Fin.ext
  match b with
  | ⟨0, _⟩ =>
    show ((Layout.meshBlock [2, 4, 4] ![[1], []] (peer c (rowBlock i))) (0 : Fin 2)).val * 256 + (i 0).val % 256
      = ((Layout.meshBlock [2, 4, 4] ![[], [1]] c) (0 : Fin 2)).val * 1024 + (i 0).val
    rw [hr.1, hc.1]
    show (i 0).val / 256 * 256 + (i 0).val % 256 = 0 * 1024 + (i 0).val
    omega
  | ⟨1, _⟩ =>
    show ((Layout.meshBlock [2, 4, 4] ![[1], []] (peer c (rowBlock i))) (1 : Fin 2)).val * 1024 + (256 * (yOf c).val + (i 1).val)
      = ((Layout.meshBlock [2, 4, 4] ![[], [1]] c) (1 : Fin 2)).val * 256 + (i 1).val
    rw [hr.2, hc.2]
    omega

/-- Where every device's argument is its rows of one array, every device's result is its columns of the same array. -/
theorem outFinal_eq (v : Whole.Idx → Elt F .bf16)
    (hv : ∀ c : Dev nD, m ((c.tc : Thread nD τ).loc main_arg0)
      = Layout.blockN ⟨2, ![256, 1024]⟩ ⟨2, ![1024, 1024]⟩ (Layout.meshBlock [2, 4, 4] ![[1], []] c) v) (c : Dev nD) :
    outFinal m c = Layout.blockN ⟨2, ![1024, 256]⟩ ⟨2, ![1024, 1024]⟩ (Layout.meshBlock [2, 4, 4] ![[], [1]] c) v := by
  funext i
  show m (((peer c (rowBlock i)).tc : Thread nD τ).loc main_arg0) (source (yOf c) i) = v (cols_tile.idx (Layout.meshBlock [2, 4, 4] ![[], [1]] c) i)
  rw [hv, ← same_entry]; rfl

/-! ## The claims -/

/-- The reference hands its argument back: nothing runs. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ d : Dev Cert.ReferenceIdeal.nD,
        r.2.mem ((d.tc : Thread Cert.ReferenceIdeal.nD Cert.ReferenceIdeal.τ).loc Cert.ReferenceIdeal.main_arg0)
          = m ((d.tc : Thread Cert.ReferenceIdeal.nD Cert.ReferenceIdeal.τ).loc Cert.ReferenceIdeal.main_arg0) :=
  (θ_run Cert.ReferenceIdeal.defs _ _).mono (fun _ h d => h d Cert.ReferenceIdeal.main_arg0)
    (StableHlo.run_seq (by decide) (by decide) Cert.ReferenceIdeal.defs Cert.ReferenceIdeal.main (fun _ => []) (fun _ => rfl) (fun _ => trivial) m ρ
      (fun _ _ h => nomatch h))

theorem frame_kernel : Cert.quiescent_Kernel := fun m ρ _ =>
  (θ_run Cert.KernelIdeal.defs _ _).mono (fun _ h => ⟨fun c => (h.1 c).1, h.2⟩) (run_main (F := Bits) m ρ)

theorem frame_ideal : Cert.quiescent_KernelIdeal := fun m ρ _ =>
  (θ_run Cert.KernelIdeal.defs _ _).mono (fun _ h => ⟨fun c => (h.1 c).1, h.2⟩) (run_main (F := Ideal) m ρ)

theorem frame_reference : Cert.quiescent_ReferenceIdeal := fun m ρ _ =>
  (θ_run Cert.ReferenceIdeal.defs _ _).mono (fun r h => ⟨h, sem_eq_zero_of_no_sems (by decide) r.2⟩) (run_reference m ρ)

/-- The kernel's results are the blocks of columns of the array whose blocks of rows it is given. -/
theorem value : Cert.algebraic_KernelIdeal_ReferenceIdeal := fun m ρ m' ρ' _ hv =>
  ⟨m' (((0 : Dev Cert.ReferenceIdeal.nD).tc : Thread Cert.ReferenceIdeal.nD Cert.ReferenceIdeal.τ).loc Cert.ReferenceIdeal.main_arg0),
    (θ_run Cert.KernelIdeal.defs _ _).mono (fun _ h c => ⟨(h.1 c).2.trans (outFinal_eq m _ hv c), (h.1 c).1⟩) (run_main (F := Ideal) m ρ),
    (θ_run Cert.ReferenceIdeal.defs _ _).mono (fun _ h => ⟨h 0, h 0⟩) (run_reference m' ρ')⟩

end Cert.AllToAll

end
-- ==== Proof.lean ====
/-
# The claims

The frames of the kernel, of its idealized form and of the reference, and the value of the kernel's one result, as proved in
Proof/Value.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.AllToAll.frame_kernel, Cert.AllToAll.frame_ideal, Cert.AllToAll.frame_reference, trivial, Cert.AllToAll.value⟩

end Cert.Proof

end
